-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_rows [hPre_finite_rows : Cert.Pre_finite_rows.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_rows [hPre_finite_rows : Cert.Pre_finite_rows.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_rows.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite_rows.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite_rows [hKernel11Ideal : Cert.Kernel11Ideal.Facts] [hPre_finite_rows : Cert.Pre_finite_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_rows m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite_rows [hReference11Ideal : Cert.Reference11Ideal.Facts] [hPre_finite_rows : Cert.Pre_finite_rows.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_rows m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v89) = v0 c
          ∧ r.2.mem ((c.tc : Thread Cert.Reference8Ideal.nD Cert.Reference8Ideal.τ).loc Cert.Reference8Ideal.main_v90) = v1 c
          ∧ r.2.mem ((c.tc : Thread Cert.Reference8Ideal.nD Cert.Reference8Ideal.τ).loc Cert.Reference8Ideal.main_v88) = v2 c
          ∧ r.2.mem ((c.tc : Thread Cert.Reference8Ideal.nD Cert.Reference8Ideal.τ).loc Cert.Reference8Ideal.main_v60) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v57) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_v51) = v2 c
          ∧ r.2.mem ((c.tc : Thread Cert.Reference9Ideal.nD Cert.Reference9Ideal.τ).loc Cert.Reference9Ideal.main_v55) = v3 c
          ∧ r.2.mem ((c.tc : Thread Cert.Reference9Ideal.nD Cert.Reference9Ideal.τ).loc Cert.Reference9Ideal.main_v61) = v4 c
          ∧ r.2.mem ((c.tc : Thread Cert.Reference9Ideal.nD Cert.Reference9Ideal.τ).loc Cert.Reference9Ideal.main_v49) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v36) = v0 c
          ∧ r.2.mem ((c.tc : Thread Cert.Reference10Ideal.nD Cert.Reference10Ideal.τ).loc Cert.Reference10Ideal.main_v38) = v1 c
          ∧ r.2.mem ((c.tc : Thread Cert.Reference10Ideal.nD Cert.Reference10Ideal.τ).loc Cert.Reference10Ideal.main_v41) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel11_Kernel11Ideal : Prop :=
  True

def algebraic_Kernel11Ideal_Reference11Ideal_pre_finite_rows [hKernel11Ideal : Cert.Kernel11Ideal.Facts] [hReference11Ideal : Cert.Reference11Ideal.Facts] [hPre_finite_rows : Cert.Pre_finite_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_rows m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v59) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v30) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v16) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel11 : Cert.Kernel11.Facts) (hKernel11Ideal : Cert.Kernel11Ideal.Facts) (hReference11Ideal : Cert.Reference11Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel11 (hKernel11 := hKernel11)
    ∧ quiescent_Kernel11Ideal (hKernel11Ideal := hKernel11Ideal)
    ∧ quiescent_Kernel11Ideal_pre_finite_rows (hKernel11Ideal := hKernel11Ideal) (hPre_finite_rows := hPre_finite_rows)
    ∧ quiescent_Reference11Ideal (hReference11Ideal := hReference11Ideal)
    ∧ quiescent_Reference11Ideal_pre_finite_rows (hReference11Ideal := hReference11Ideal) (hPre_finite_rows := hPre_finite_rows)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel11_Kernel11Ideal
    ∧ algebraic_Kernel11Ideal_Reference11Ideal_pre_finite_rows (hKernel11Ideal := hKernel11Ideal) (hReference11Ideal := hReference11Ideal) (hPre_finite_rows := hPre_finite_rows)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite_rows.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x1024 .f32) (main_arg2 : FVec F S1x1024 .f32) : IVec S2048x1024 1 × IVec S1x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_scores.lean ====
abbrev S2048x1024 : Shape := ⟨2, ![2048, 1024]⟩
abbrev S256x2048 : Shape := ⟨2, ![256, 2048]⟩
abbrev S_ : Shape := ⟨0, ![]⟩
abbrev S256x1024 : Shape := ⟨2, ![256, 1024]⟩

class Facts : Prop where
  bcast_S_S2048x1024 : S_.BroadcastsInDim S2048x1024 (![] : Fin 0 → Fin S2048x1024.rank)
  slices_S256x2048_S256x1024_0_0 : S256x2048.Slices ![0, 0] S256x1024
  bcast_S_S256x1024 : S_.BroadcastsInDim S256x1024 (![] : Fin 0 → Fin S256x1024.rank)

variable [Facts]

def fn {F : FTy → Type} [FloatOps F] (main_arg0 : FVec F S2048x1024 .f32) (main_arg1 : FVec F S256x2048 .f32) (main_arg2 : FVec F S2048x1024 .f32) : IVec S2048x1024 1 × IVec S256x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S256x1024 .f32 := (extractStridedSlice S256x1024 ![0, 0] · slices_S256x2048_S256x1024_0_0) main_arg1
  let main_v4 : FVec F S256x1024 .f32 := Host.absf main_v3
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  (main_v2, main_v6)
-- ==== Kernel.lean ====
abbrev S2048x1024 : Shape := ⟨2, ![2048, 1024]⟩
abbrev S256x2048 : Shape := ⟨2, ![256, 2048]⟩
abbrev S4x2048x1 : Shape := ⟨3, ![4, 2048, 1]⟩
abbrev S512x1024 : Shape := ⟨2, ![512, 1024]⟩
abbrev S256x1024 : Shape := ⟨2, ![256, 1024]⟩
abbrev S4x512x1 : Shape := ⟨3, ![4, 512, 1]⟩
abbrev S512x256 : Shape := ⟨2, ![512, 256]⟩
abbrev S256x256 : Shape := ⟨2, ![256, 256]⟩
abbrev S512 : Shape := ⟨1, ![512]⟩
abbrev S512x1 : Shape := ⟨2, ![512, 1]⟩
abbrev S1x512x1 : Shape := ⟨3, ![1, 512, 1]⟩

abbrev nBuf : Space → Nat
  | .hbm => 8
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S256x2048, .f32⟩
  | .hbm, ⟨2, _⟩ => ⟨S2048x1024, .f32⟩
  | .hbm, ⟨3, _⟩ => ⟨S2048x1024, .f32⟩
  | .hbm, ⟨4, _⟩ => ⟨S4x2048x1, .f32⟩
  | .hbm, ⟨5, _⟩ => ⟨S2048x1024, .f32⟩
  | .hbm, ⟨6, _⟩ => ⟨S256x1024, .f32⟩
  | .hbm, ⟨7, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S4x512x1, .f32⟩
  | .local _ .vmem, ⟨7, _⟩ => ⟨S4x512x1, .f32⟩
  | .local _ .vmem, ⟨8, _⟩ => ⟨S512x1024, .f32⟩
  | .local _ .vmem, ⟨9, _⟩ => ⟨S512x1024, .f32⟩
  | .local _ .vmem, ⟨10, _⟩ => ⟨S256x1024, .f32⟩
  | .local _ .vmem, ⟨11, _⟩ => ⟨S256x1024, .f32⟩
  | .local _ .vmem, ⟨12, _⟩ => ⟨S4x512x1, .f32⟩
  | .local _ .vmem, ⟨13, _⟩ => ⟨S4x512x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S256x1024, .f32⟩
  | .local _ .vmem, ⟨19, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S4x512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, false]

abbrev stage1_7 : Fin 1 → Memref sig .tc .vmem S256x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]
-- ==== ReferenceIdeal.lean ====
abbrev S2048x1024 : Shape := ⟨2, ![2048, 1024]⟩
abbrev S256x2048 : Shape := ⟨2, ![256, 2048]⟩
abbrev S256x1024 : Shape := ⟨2, ![256, 1024]⟩
abbrev S2048x4x256 : Shape := ⟨3, ![2048, 4, 256]⟩
abbrev S256x4x256 : Shape := ⟨3, ![256, 4, 256]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x256x2048 : Shape := ⟨3, ![4, 256, 2048]⟩
abbrev S4x256x256 : Shape := ⟨3, ![4, 256, 256]⟩

abbrev nBuf : Space → Nat
  | .hbm => 82
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x2048, .f32⟩
  | .hbm, ⟨2, _⟩ => ⟨S2048x1024, .f32⟩
  | .hbm, ⟨3, _⟩ => ⟨S256x1024, .f32⟩
  | .hbm, ⟨4, _⟩ => ⟨S256x1024, .f32⟩
  | .hbm, ⟨5, _⟩ => ⟨S2048x4x256, .f32⟩
  | .hbm, ⟨6, _⟩ => ⟨S256x4x256, .f32⟩
  | .hbm, ⟨7, _⟩ => ⟨S256x4x256, .f32⟩
  | .hbm, ⟨8, _⟩ => ⟨S4x2048x256, .f32⟩
  | .hbm, ⟨9, _⟩ => ⟨S_, .f32⟩
  | .hbm, ⟨10, _⟩ => ⟨S4x2048x256, .f32⟩
  | .hbm, ⟨11, _⟩ => ⟨S4x2048x256, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S4x2048x256, .f32⟩
  | .hbm, ⟨16, _⟩ => ⟨S4x2048x256, .i1⟩
  | .hbm, ⟨17, _⟩ => ⟨S4x2048x256, .f32⟩
  | .hbm, ⟨18, _⟩ => ⟨S_, .f32⟩
  | .hbm, ⟨19, _⟩ => ⟨S4x2048, .f32⟩
  | .hbm, ⟨20, _⟩ => ⟨S_, .f32⟩
  | .hbm, ⟨21, _⟩ => ⟨S4x2048, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .i1⟩
  | .hbm, ⟨26, _⟩ => ⟨S_, .f32⟩
  | .hbm, ⟨27, _⟩ => ⟨S4x2048, .f32⟩
  | .hbm, ⟨28, _⟩ => ⟨S4x2048, .i1⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S_, .f32⟩
  | .hbm, ⟨34, _⟩ => ⟨S4x2048, .f32⟩
  | .hbm, ⟨35, _⟩ => ⟨S4x2048, .f32⟩
  | .hbm, ⟨36, _⟩ => ⟨S4x2048, .f32⟩
  | .hbm, ⟨37, _⟩ => ⟨S4x2048x1, .f32⟩
  | .hbm, ⟨38, _⟩ => ⟨S4x2048x256, .f32⟩
  | .hbm, ⟨39, _⟩ => ⟨S4x2048x256, .f32⟩
  | .hbm, ⟨40, _⟩ => ⟨S4x2048x256, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S4x2048x256, .f32⟩
  | .hbm, ⟨45, _⟩ => ⟨S4x2048x256, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x256x2048, .f32⟩
  | .hbm, ⟨51, _⟩ => ⟨S2048x4x256, .f32⟩
  | .hbm, ⟨52, _⟩ => ⟨S2048x1024, .f32⟩
  | .hbm, ⟨53, _⟩ => ⟨S2048x4x256, .f32⟩
  | .hbm, ⟨54, _⟩ => ⟨S4x256x2048, .f32⟩
  | .hbm, ⟨55, _⟩ => ⟨S4x2048x256, .f32⟩
  | .hbm, ⟨56, _⟩ => ⟨S4x256x256, .f32⟩
  | .hbm, ⟨57, _⟩ => ⟨S256x4x256, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1, .f32⟩
  | .hbm, ⟨65, _⟩ => ⟨S4x2048x256, .f32⟩
  | .hbm, ⟨66, _⟩ => ⟨S4x2048x256, .f32⟩
  | .hbm, ⟨67, _⟩ => ⟨S_, .f32⟩
  | .hbm, ⟨68, _⟩ => ⟨S4x2048, .f32⟩
  | .hbm, ⟨69, _⟩ => ⟨S4x2048x256, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048x256, .f32⟩
  | .hbm, ⟨74, _⟩ => ⟨S4x2048x256, .f32⟩
  | .hbm, ⟨75, _⟩ => ⟨S4x256x256, .f32⟩
  | .hbm, ⟨76, _⟩ => ⟨S256x4x256, .f32⟩
  | .hbm, ⟨77, _⟩ => ⟨S4x2048x256, .f32⟩
  | .hbm, ⟨78, _⟩ => ⟨S2048x4x256, .f32⟩
  | .hbm, ⟨79, _⟩ => ⟨S256x1024, .f32⟩
  | .hbm, ⟨80, _⟩ => ⟨S256x1024, .f32⟩
  | .hbm, ⟨81, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩

abbrev nD : Nat := 1
abbrev τ : Topo := Topo.v7x

variable {F : FTy → Type} [FloatOps F]
-- ==== Kernel2.lean ====
abbrev S2048x7168 : Shape := ⟨2, ![2048, 7168]⟩
abbrev S1024x7168 : Shape := ⟨2, ![1024, 7168]⟩
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x7168, .f32⟩
  | .hbm, ⟨1, _⟩ => ⟨S1024x7168, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 7], ![false, false, false]⟩

def k0_cond3 (i : grid0.Coords) : BitVec 1 :=
  let arg2 : BitVec 32 := BitVec.ofNat 32 (i 2).val
  let c6_i32 : BitVec 32 := 6#32
  let v10 : BitVec 1 := Scalar.cmpi .eq arg2 c6_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x7168 : Shape := ⟨2, ![2048, 7168]⟩
abbrev S1024x7168 : Shape := ⟨2, ![1024, 7168]⟩
abbrev S2048x1024 : Shape := ⟨2, ![2048, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S1024x7168, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x7168, .f32⟩
  | .hbm, ⟨6, _⟩ => ⟨S2048x7168, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel3.lean ====
abbrev S2048x1024 : Shape := ⟨2, ![2048, 1024]⟩
abbrev S2048x7168 : Shape := ⟨2, ![2048, 7168]⟩
abbrev S1024x7168 : Shape := ⟨2, ![1024, 7168]⟩
abbrev S2048x512 : Shape := ⟨2, ![2048, 512]⟩
abbrev S1024x512 : Shape := ⟨2, ![1024, 512]⟩
abbrev S1024x2048 : Shape := ⟨2, ![1024, 2048]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S1024x7168, .f32⟩
  | .local _ .vmem, ⟨0, _⟩ => ⟨S2048x1024, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S2048x7168 : Shape := ⟨2, ![2048, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x7168, .f32⟩
  | .hbm, ⟨2, _⟩ => ⟨S_, .f32⟩
  | .hbm, ⟨3, _⟩ => ⟨S1024x7168, .f32⟩
  | .hbm, ⟨4, _⟩ => ⟨S2048x7168, .f32⟩
  | .hbm, ⟨5, _⟩ => ⟨S7168x1024, .f32⟩
  | .hbm, ⟨6, _⟩ => ⟨S1024x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x6144 : Shape := ⟨2, ![2048, 6144]⟩
abbrev S8x1024x768 : Shape := ⟨3, ![8, 1024, 768]⟩
abbrev S2048x1024 : Shape := ⟨2, ![2048, 1024]⟩
abbrev S1024x768 : Shape := ⟨2, ![1024, 768]⟩
abbrev S1x512x768 : Shape := ⟨3, ![1, 512, 768]⟩
abbrev S1024x512 : Shape := ⟨2, ![1024, 512]⟩
abbrev S512x768 : Shape := ⟨2, ![512, 768]⟩

abbrev nBuf : Space → Nat
  | .hbm => 4
  | .vmem => 9
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S2048x1024, .f32⟩
  | .hbm, ⟨3, _⟩ => ⟨S2048x1024, .f32⟩
  | .local _ .vmem, ⟨0, _⟩ => ⟨S1024x768, .bf16⟩
  | .local _ .vmem, ⟨1, _⟩ => ⟨S1024x768, .bf16⟩
  | .local _ .vmem, ⟨2, _⟩ => ⟨S1x512x768, .bf16⟩
  | .local _ .vmem, ⟨3, _⟩ => ⟨S1x512x768, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S2048x6144 : Shape := ⟨2, ![2048, 6144]⟩
abbrev S8x1024x768 : Shape := ⟨3, ![8, 1024, 768]⟩
abbrev S2048x1024 : Shape := ⟨2, ![2048, 1024]⟩
abbrev S_ : Shape := ⟨0, ![]⟩
abbrev S1024x8x768 : Shape := ⟨3, ![1024, 8, 768]⟩
abbrev S1024x6144 : Shape := ⟨2, ![1024, 6144]⟩

abbrev nBuf : Space → Nat
  | .hbm => 18
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S8x1024x768, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S8x1024x768, .f32⟩
  | .hbm, ⟨6, _⟩ => ⟨S1024x8x768, .f32⟩
  | .hbm, ⟨7, _⟩ => ⟨S1024x6144, .f32⟩
  | .hbm, ⟨8, _⟩ => ⟨S2048x6144, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x6144, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel5.lean ====
abbrev S2048x1024 : Shape := ⟨2, ![2048, 1024]⟩
abbrev S2048x6144 : Shape := ⟨2, ![2048, 6144]⟩
abbrev S8x1024x768 : Shape := ⟨3, ![8, 1024, 768]⟩
abbrev S2048x768 : Shape := ⟨2, ![2048, 768]⟩
abbrev S1x1024x768 : Shape := ⟨3, ![1, 1024, 768]⟩
abbrev S1024x2048 : Shape := ⟨2, ![1024, 2048]⟩
abbrev S256x1024 : Shape := ⟨2, ![256, 1024]⟩
abbrev S1024x256 : Shape := ⟨2, ![1024, 256]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S8x1024x768, .f32⟩
  | .local _ .vmem, ⟨0, _⟩ => ⟨S2048x1024, .f32⟩
  | .local _ .vmem, ⟨1, _⟩ => ⟨S2048x768, .bf16⟩
  | .local _ .vmem, ⟨2, _⟩ => ⟨S2048x768, .bf16⟩
  | .local _ .vmem, ⟨3, _⟩ => ⟨S1x1024x768, .f32⟩
  | .local _ .vmem, ⟨4, _⟩ => ⟨S1x1024x768, .f32⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x6144 : Shape := ⟨2, ![2048, 6144]⟩
abbrev S_ : Shape := ⟨0, ![]⟩
abbrev S8x1024x768 : Shape := ⟨3, ![8, 1024, 768]⟩
abbrev S1024x8x768 : Shape := ⟨3, ![1024, 8, 768]⟩
abbrev S1024x6144 : Shape := ⟨2, ![1024, 6144]⟩
abbrev S6144x1024 : Shape := ⟨2, ![6144, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .bf16⟩
  | .hbm, ⟨2, _⟩ => ⟨S_, .f32⟩
  | .hbm, ⟨3, _⟩ => ⟨S8x1024x768, .f32⟩
  | .hbm, ⟨4, _⟩ => ⟨S1024x8x768, .f32⟩
  | .hbm, ⟨5, _⟩ => ⟨S1024x6144, .f32⟩
  | .hbm, ⟨6, _⟩ => ⟨S2048x6144, .f32⟩
  | .hbm, ⟨7, _⟩ => ⟨S2048x6144, .f32⟩
  | .hbm, ⟨8, _⟩ => ⟨S6144x1024, .f32⟩
  | .hbm, ⟨9, _⟩ => ⟨S1024x6144, .f32⟩
  | .hbm, ⟨10, _⟩ => ⟨S1024x8x768, .f32⟩
  | .hbm, ⟨11, _⟩ => ⟨S8x1024x768, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S2048x1024 : Shape := ⟨2, ![2048, 1024]⟩
abbrev S3072x1024 : Shape := ⟨2, ![3072, 1024]⟩
abbrev S2048x3072 : Shape := ⟨2, ![2048, 3072]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S3072x1024, .bf16⟩
  | .hbm, ⟨2, _⟩ => ⟨S2048x3072, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S3072x1024 : Shape := ⟨2, ![3072, 1024]⟩
abbrev S_ : Shape := ⟨0, ![]⟩
abbrev S2048x3072 : Shape := ⟨2, ![2048, 3072]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S3072x1024, .bf16⟩
  | .hbm, ⟨2, _⟩ => ⟨S_, .f32⟩
  | .hbm, ⟨3, _⟩ => ⟨S2048x3072, .f32⟩
  | .hbm, ⟨4, _⟩ => ⟨S3072x1024, .f32⟩
  | .hbm, ⟨5, _⟩ => ⟨S2048x1024, .f32⟩
  | .hbm, ⟨6, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x3072 : Shape := ⟨2, ![2048, 3072]⟩
abbrev S2048x1024 : Shape := ⟨2, ![2048, 1024]⟩
abbrev S3072x1024 : Shape := ⟨2, ![3072, 1024]⟩
abbrev S2048x512 : Shape := ⟨2, ![2048, 512]⟩
abbrev S1024x512 : Shape := ⟨2, ![1024, 512]⟩
abbrev S1024x2048 : Shape := ⟨2, ![1024, 2048]⟩
abbrev S256x1024 : Shape := ⟨2, ![256, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x3072 : Shape := ⟨2, ![2048, 3072]⟩
abbrev S2048x1024 : Shape := ⟨2, ![2048, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S2048x1024, .f32⟩
  | .hbm, ⟨2, _⟩ => ⟨S_, .f32⟩
  | .hbm, ⟨3, _⟩ => ⟨S3072x1024, .f32⟩
  | .hbm, ⟨4, _⟩ => ⟨S2048x3072, .f32⟩
  | .hbm, ⟨5, _⟩ => ⟨S2048x1024, .f32⟩
  | .hbm, ⟨6, _⟩ => ⟨S1024x3072, .f32⟩
  | .hbm, ⟨7, _⟩ => ⟨S3072x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 8
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .f32⟩
  | .hbm, ⟨4, _⟩ => ⟨S2048x3072, .bf16⟩
  | .hbm, ⟨5, _⟩ => ⟨S2048x3072, .bf16⟩
  | .hbm, ⟨6, _⟩ => ⟨S3x3072, .f32⟩
  | .hbm, ⟨7, _⟩ => ⟨S1x3072, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .f32⟩
  | .local _ .vmem, ⟨9, _⟩ => ⟨S2048x256, .f32⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S2048x6144 : Shape := ⟨2, ![2048, 6144]⟩
abbrev S3x3072 : Shape := ⟨2, ![3, 3072]⟩
abbrev S1x3072 : Shape := ⟨2, ![1, 3072]⟩
abbrev S2048x3072 : Shape := ⟨2, ![2048, 3072]⟩
abbrev S_ : Shape := ⟨0, ![]⟩
abbrev S2047x3072 : Shape := ⟨2, ![2047, 3072]⟩
abbrev S2x3072 : Shape := ⟨2, ![2, 3072]⟩
abbrev S2046x3072 : Shape := ⟨2, ![2046, 3072]⟩
abbrev S3072 : Shape := ⟨1, ![3072]⟩

abbrev nBuf : Space → Nat
  | .hbm => 118
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S3x3072, .f32⟩
  | .hbm, ⟨2, _⟩ => ⟨S1x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S1x3072, .f32⟩
  | .hbm, ⟨7, _⟩ => ⟨S2048x3072, .f32⟩
  | .hbm, ⟨8, _⟩ => ⟨S2048x3072, .f32⟩
  | .hbm, ⟨9, _⟩ => ⟨S1x3072, .f32⟩
  | .hbm, ⟨10, _⟩ => ⟨S_, .f32⟩
  | .hbm, ⟨11, _⟩ => ⟨S1x3072, .f32⟩
  | .hbm, ⟨12, _⟩ => ⟨S2047x3072, .f32⟩
  | .hbm, ⟨13, _⟩ => ⟨S2048x3072, .f32⟩
  | .hbm, ⟨14, _⟩ => ⟨S_, .f32⟩
  | .hbm, ⟨15, _⟩ => ⟨S1x3072, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S1x3072, .f32⟩
  | .hbm, ⟨20, _⟩ => ⟨S_, .f32⟩
  | .hbm, ⟨21, _⟩ => ⟨S2x3072, .f32⟩
  | .hbm, ⟨22, _⟩ => ⟨S2046x3072, .f32⟩
  | .hbm, ⟨23, _⟩ => ⟨S2048x3072, .f32⟩
  | .hbm, ⟨24, _⟩ => ⟨S_, .f32⟩
  | .hbm, ⟨25, _⟩ => ⟨S2x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S_, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S_, .f32⟩
  | .hbm, ⟨46, _⟩ => ⟨S2048x3072, .f32⟩
  | .hbm, ⟨47, _⟩ => ⟨S2048x3072, .f32⟩
  | .hbm, ⟨48, _⟩ => ⟨S_, .f32⟩
  | .hbm, ⟨49, _⟩ => ⟨S2048x3072, .f32⟩
  | .hbm, ⟨50, _⟩ => ⟨S2048x3072, .f32⟩
  | .hbm, ⟨51, _⟩ => ⟨S2048x3072, .f32⟩
  | .hbm, ⟨52, _⟩ => ⟨S_, .f32⟩
  | .hbm, ⟨53, _⟩ => ⟨S2048x3072, .f32⟩
  | .hbm, ⟨54, _⟩ => ⟨S2048x3072, .f32⟩
  | .hbm, ⟨55, _⟩ => ⟨S_, .f32⟩
  | .hbm, ⟨56, _⟩ => ⟨S2048x3072, .f32⟩
  | .hbm, ⟨57, _⟩ => ⟨S2048x3072, .f32⟩
  | .hbm, ⟨58, _⟩ => ⟨S2048x3072, .f32⟩
  | .hbm, ⟨59, _⟩ => ⟨S2048x3072, .f32⟩
  | .hbm, ⟨60, _⟩ => ⟨S2048x3072, .f32⟩
  | .hbm, ⟨61, _⟩ => ⟨S2048x3072, .f32⟩
  | .hbm, ⟨62, _⟩ => ⟨S2048x3072, .f32⟩
  | .hbm, ⟨63, _⟩ => ⟨S2048x3072, .f32⟩
  | .hbm, ⟨64, _⟩ => ⟨S_, .f32⟩
  | .hbm, ⟨65, _⟩ => ⟨S2048x3072, .f32⟩
  | .hbm, ⟨66, _⟩ => ⟨S2048x3072, .f32⟩
  | .hbm, ⟨67, _⟩ => ⟨S2048x3072, .f32⟩
  | .hbm, ⟨68, _⟩ => ⟨S_, .f32⟩
  | .hbm, ⟨69, _⟩ => ⟨S2048x3072, .f32⟩
  | .hbm, ⟨70, _⟩ => ⟨S2048x3072, .f32⟩
  | .hbm, ⟨71, _⟩ => ⟨S2048x3072, .f32⟩
  | .hbm, ⟨72, _⟩ => ⟨S_, .f32⟩
  | .hbm, ⟨73, _⟩ => ⟨S2048x3072, .f32⟩
  | .hbm, ⟨74, _⟩ => ⟨S2048x3072, .f32⟩
  | .hbm, ⟨75, _⟩ => ⟨S2048x3072, .f32⟩
  | .hbm, ⟨76, _⟩ => ⟨S2048x3072, .f32⟩
  | .hbm, ⟨77, _⟩ => ⟨S_, .f32⟩
  | .hbm, ⟨78, _⟩ => ⟨S3072, .f32⟩
  | .hbm, ⟨79, _⟩ => ⟨S1x3072, .f32⟩
  | .hbm, ⟨80, _⟩ => ⟨S2048x3072, .f32⟩
  | .hbm, ⟨81, _⟩ => ⟨S2048x3072, .f32⟩
  | .hbm, ⟨82, _⟩ => ⟨S2048x3072, .f32⟩
  | .hbm, ⟨83, _⟩ => ⟨S_, .f32⟩
  | .hbm, ⟨84, _⟩ => ⟨S3072, .f32⟩
  | .hbm, ⟨85, _⟩ => ⟨S1x3072, .f32⟩
  | .hbm, ⟨86, _⟩ => ⟨S2x3072, .f32⟩
  | .hbm, ⟨87, _⟩ => ⟨S2046x3072, .f32⟩
  | .hbm, ⟨88, _⟩ => ⟨S_, .f32⟩
  | .hbm, ⟨89, _⟩ => ⟨S2048x3072, .f32⟩
  | .hbm, ⟨90, _⟩ => ⟨S_, .f32⟩
  | .hbm, ⟨91, _⟩ => ⟨S3x3072, .f32⟩
  | .hbm, ⟨92, _⟩ => ⟨S2048x3072, .f32⟩
  | .hbm, ⟨93, _⟩ => ⟨S2048x3072, .f32⟩
  | .hbm, ⟨94, _⟩ => ⟨S2048x3072, .f32⟩
  | .hbm, ⟨95, _⟩ => ⟨S_, .f32⟩
  | .hbm, ⟨96, _⟩ => ⟨S3072, .f32⟩
  | .hbm, ⟨97, _⟩ => ⟨S1x3072, .f32⟩
  | .hbm, ⟨98, _⟩ => ⟨S1x3072, .f32⟩
  | .hbm, ⟨99, _⟩ => ⟨S2047x3072, .f32⟩
  | .hbm, ⟨100, _⟩ => ⟨S_, .f32⟩
  | .hbm, ⟨101, _⟩ => ⟨S2048x3072, .f32⟩
  | .hbm, ⟨102, _⟩ => ⟨S2048x3072, .f32⟩
  | .hbm, ⟨103, _⟩ => ⟨S_, .f32⟩
  | .hbm, ⟨104, _⟩ => ⟨S3x3072, .f32⟩
  | .hbm, ⟨105, _⟩ => ⟨S3x3072, .f32⟩
  | .hbm, ⟨106, _⟩ => ⟨S2048x3072, .f32⟩
  | .hbm, ⟨107, _⟩ => ⟨S2048x3072, .f32⟩
  | .hbm, ⟨108, _⟩ => ⟨S2048x3072, .f32⟩
  | .hbm, ⟨109, _⟩ => ⟨S2048x3072, .f32⟩
  | .hbm, ⟨110, _⟩ => ⟨S_, .f32⟩
  | .hbm, ⟨111, _⟩ => ⟨S3072, .f32⟩
  | .hbm, ⟨112, _⟩ => ⟨S1x3072, .f32⟩
  | .hbm, ⟨113, _⟩ => ⟨S_, .f32⟩
  | .hbm, ⟨114, _⟩ => ⟨S3x3072, .f32⟩
  | .hbm, ⟨115, _⟩ => ⟨S3x3072, .f32⟩
  | .hbm, ⟨116, _⟩ => ⟨S2048x3072, .bf16⟩
  | .hbm, ⟨117, _⟩ => ⟨S2048x3072, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_14 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_15 : Ref sig .tc := ⟨.hbm, 88, rfl⟩
abbrev main_v68 : Ref sig .tc := ⟨.hbm, 89, rfl⟩
abbrev main_cst_16 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_cst_19 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_20 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== Kernel9.lean ====
abbrev S2048x7168 : Shape := ⟨2, ![2048, 7168]⟩
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 11
  | .vmem => 26
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x2048, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .f32⟩
  | .local _ .vmem, ⟨23, _⟩ => ⟨S256x2048, .f32⟩
  | .local _ .vmem, ⟨24, _⟩ => ⟨S256x1024, .f32⟩
  | .local _ .vmem, ⟨25, _⟩ => ⟨S256x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S2048x7168 : Shape := ⟨2, ![2048, 7168]⟩
abbrev S2048x1024 : Shape := ⟨2, ![2048, 1024]⟩
abbrev S2048x2048 : Shape := ⟨2, ![2048, 2048]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x2048, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel10.lean ====
abbrev S2048x512 : Shape := ⟨2, ![2048, 512]⟩
abbrev S2048x7168 : Shape := ⟨2, ![2048, 7168]⟩
abbrev S1x512 : Shape := ⟨2, ![1, 512]⟩
abbrev S256x512 : Shape := ⟨2, ![256, 512]⟩
abbrev S512 : Shape := ⟨1, ![512]⟩

abbrev nBuf : Space → Nat
  | .hbm => 7
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S2048x7168, .f32⟩
  | .hbm, ⟨2, _⟩ => ⟨S2048x512, .f32⟩
  | .hbm, ⟨3, _⟩ => ⟨S1x512, .f32⟩
  | .hbm, ⟨4, _⟩ => ⟨S2048x512, .f32⟩
  | .hbm, ⟨5, _⟩ => ⟨S2048x512, .f32⟩
  | .hbm, ⟨6, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_21 : BitVec 32 := 0#32
  let v48 : BitVec 1 := Scalar.cmpi .ne v47 c0_i32_21
  v48

def k0_cond2 (i : grid0.Coords) : BitVec 1 :=
  let arg0 : BitVec 32 := BitVec.ofNat 32 (i 0).val
  let c0_i32_22 : BitVec 32 := 0#32
  let v49 : BitVec 1 := Scalar.cmpi .sgt arg0 c0_i32_22
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S2048x512 : Shape := ⟨2, ![2048, 512]⟩
abbrev S2048x7168 : Shape := ⟨2, ![2048, 7168]⟩
abbrev S1x512 : Shape := ⟨2, ![1, 512]⟩
abbrev S_ : Shape := ⟨0, ![]⟩
abbrev S512 : Shape := ⟨1, ![512]⟩

abbrev nBuf : Space → Nat
  | .hbm => 57
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x7168, .f32⟩
  | .hbm, ⟨2, _⟩ => ⟨S2048x512, .f32⟩
  | .hbm, ⟨3, _⟩ => ⟨S1x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S_, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S_, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S_, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S_, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S_, .f32⟩
  | .hbm, ⟨55, _⟩ => ⟨S512, .f32⟩
  | .hbm, ⟨56, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel12.lean ====
abbrev S2048x1024 : Shape := ⟨2, ![2048, 1024]⟩
abbrev S1024x7168 : Shape := ⟨2, ![1024, 7168]⟩
abbrev S1x7168 : Shape := ⟨2, ![1, 7168]⟩
abbrev S2048x7168 : Shape := ⟨2, ![2048, 7168]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x7168, .bf16⟩
  | .hbm, ⟨2, _⟩ => ⟨S1x7168, .f32⟩
  | .hbm, ⟨3, _⟩ => ⟨S2048x7168, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S2048x1024 : Shape := ⟨2, ![2048, 1024]⟩
abbrev S1024x7168 : Shape := ⟨2, ![1024, 7168]⟩
abbrev S1x7168 : Shape := ⟨2, ![1, 7168]⟩
abbrev S2048x7168 : Shape := ⟨2, ![2048, 7168]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7168, .bf16⟩
  | .hbm, ⟨2, _⟩ => ⟨S1x7168, .f32⟩
  | .hbm, ⟨3, _⟩ => ⟨S1024x7168, .f32⟩
  | .hbm, ⟨4, _⟩ => ⟨S2048x7168, .f32⟩
  | .hbm, ⟨5, _⟩ => ⟨S2048x7168, .f32⟩
  | .hbm, ⟨6, _⟩ => ⟨S2048x7168, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S8x1024x768 : Shape := ⟨3, ![8, 1024, 768]⟩
abbrev S2048x6144 : Shape := ⟨2, ![2048, 6144]⟩
abbrev S1024x1024 : Shape := ⟨2, ![1024, 1024]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S8x1024x768, .bf16⟩
  | .hbm, ⟨2, _⟩ => ⟨S2048x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1024x768, .f32⟩
  | .local _ .vmem, ⟨5, _⟩ => ⟨S1024x768, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S8x1024x768 : Shape := ⟨3, ![8, 1024, 768]⟩
abbrev S1024x8x768 : Shape := ⟨3, ![1024, 8, 768]⟩
abbrev S1024x6144 : Shape := ⟨2, ![1024, 6144]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x768, .bf16⟩
  | .hbm, ⟨2, _⟩ => ⟨S8x1024x768, .f32⟩
  | .hbm, ⟨3, _⟩ => ⟨S1024x8x768, .f32⟩
  | .hbm, ⟨4, _⟩ => ⟨S1024x6144, .f32⟩
  | .hbm, ⟨5, _⟩ => ⟨S2048x6144, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2048x3072 : Shape := ⟨2, ![2048, 3072]⟩
abbrev S3072x1024 : Shape := ⟨2, ![3072, 1024]⟩
abbrev S2048x1024 : Shape := ⟨2, ![2048, 1024]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x3072 : Shape := ⟨2, ![2048, 3072]⟩
abbrev S3072x1024 : Shape := ⟨2, ![3072, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S3072x1024, .bf16⟩
  | .hbm, ⟨2, _⟩ => ⟨S2048x3072, .f32⟩
  | .hbm, ⟨3, _⟩ => ⟨S3072x1024, .f32⟩
  | .hbm, ⟨4, _⟩ => ⟨S2048x1024, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel18.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩
abbrev S1024x2048 : Shape := ⟨2, ![1024, 2048]⟩
abbrev S256x1024 : Shape := ⟨2, ![256, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S2048x1024, .f32⟩
  | .local _ .vmem, ⟨1, _⟩ => ⟨S2048x512, .f32⟩
  | .local _ .vmem, ⟨2, _⟩ => ⟨S2048x512, .f32⟩
  | .local _ .vmem, ⟨3, _⟩ => ⟨S1024x512, .f32⟩
  | .local _ .vmem, ⟨4, _⟩ => ⟨S1024x512, .f32⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_18 : BitVec 32 := 0#32
  let v50 : BitVec 1 := Scalar.cmpi .ne v49 c0_i32_18
  v50

def k0_cond2 (i : grid0.Coords) : BitVec 1 :=
  let arg0 : BitVec 32 := BitVec.ofNat 32 (i 0).val
  let c0_i32_19 : BitVec 32 := 0#32
  let v51 : BitVec 1 := Scalar.cmpi .sgt arg0 c0_i32_19
  let v52 : BitVec 32 := Scalar.extui v51
  let c0_i32_20 : BitVec 32 := 0#32
  let v53 : BitVec 1 := Scalar.cmpi .ne v52 c0_i32_20
  v53

def k0_cond3 (i : grid0.Coords) : BitVec 1 :=
  let arg0 : BitVec 32 := BitVec.ofNat 32 (i 0).val
  let c0_i32_21 : BitVec 32 := 0#32
  let v54 : BitVec 1 := Scalar.cmpi .eq arg0 c0_i32_21
  let v55 : BitVec 32 := Scalar.extui v54
  let c0_i32_22 : BitVec 32 := 0#32
  let v56 : BitVec 1 := Scalar.cmpi .ne v55 c0_i32_22
  v56

def k0_cond4 (i : grid0.Coords) : BitVec 1 :=
  let arg0 : BitVec 32 := BitVec.ofNat 32 (i 0).val
  let c0_i32_23 : BitVec 32 := 0#32
  let v57 : BitVec 1 := Scalar.cmpi .sgt arg0 c0_i32_23
  let v58 : BitVec 32 := Scalar.extui v57
  let c0_i32_24 : BitVec 32 := 0#32
  let v59 : BitVec 1 := Scalar.cmpi .ne v58 c0_i32_24
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S_, .f32⟩
  | .hbm, ⟨77, _⟩ => ⟨S2048, .f32⟩
  | .hbm, ⟨78, _⟩ => ⟨S2048x1024, .f32⟩
  | .hbm, ⟨79, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== Kernel19.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel20.lean ====
abbrev S2048x7168 : Shape := ⟨2, ![2048, 7168]⟩
abbrev S2048x1024 : Shape := ⟨2, ![2048, 1024]⟩
abbrev S2048x2048 : Shape := ⟨2, ![2048, 2048]⟩
abbrev S256x1024 : Shape := ⟨2, ![256, 1024]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .f32⟩
  | .local _ .vmem, ⟨9, _⟩ => ⟨S256x2048, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S2048x7168 : Shape := ⟨2, ![2048, 7168]⟩
abbrev S2048x1024 : Shape := ⟨2, ![2048, 1024]⟩
abbrev S2048x2048 : Shape := ⟨2, ![2048, 2048]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x7168, .f32⟩
  | .hbm, ⟨1, _⟩ => ⟨S2048x1024, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel21.lean ====
abbrev S2048x512 : Shape := ⟨2, ![2048, 512]⟩
abbrev S2048x7168 : Shape := ⟨2, ![2048, 7168]⟩
abbrev S1x512 : Shape := ⟨2, ![1, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x7168, .f32⟩
  | .hbm, ⟨2, _⟩ => ⟨S1x512, .f32⟩
  | .hbm, ⟨3, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S2048x512 : Shape := ⟨2, ![2048, 512]⟩
abbrev S2048x7168 : Shape := ⟨2, ![2048, 7168]⟩
abbrev S1x512 : Shape := ⟨2, ![1, 512]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x7168, .f32⟩
  | .hbm, ⟨2, _⟩ => ⟨S1x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.MmInDx.lean ====
/- The gradient of the rows in the product into the gate: what the call's output array holds. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Mm

open Cert.Kernel2Ideal Cert.Kernel2Ideal.Gen Cert.Kernel2Ideal.Value Idealize.ShloMosaic Idealize.ShloMosaic.TcCoe Idealize.SL.Sem
open Idealize.ShloMosaic.Pipeline (Dat)

/-- The product of one pair of blocks. -/
def part (A : Vec Ideal S1024x1024 .f32) (B : Vec Ideal S512x1024 .bf16) (y : S1024x512.Idx) : EReal :=
  ∑ k : Fin 1024, @HMul.hMul EReal EReal EReal _ (A (ix2 (y 0) k)) (B (ix2 (y 1) k))

/-- The factor of the residual. -/
abbrev alpha : EReal := Ideal.ofBits .f32 0x3FD744FD#32

variable (m : (ℓ : Loc nD τ sig) → Buf (Elt Ideal) ℓ) (c : Dev nD)

theorem pay (A : Vec Ideal S1024x1024 .f32) (B : Vec Ideal S512x1024 .bf16) (y : S1024x512.Idx) : k0_pay1 (F := Ideal) A B y = part A B y := by
  idx_vars y
  open_payloads
  pointwise
  rfl

theorem pay_first (A : Vec Ideal S1024x1024 .f32) (B : Vec Ideal S512x1024 .bf16) (y : S1024x512.Idx) : k0_pay2 (F := Ideal) A B y = 0 + part A B y := by
  rw [k0_pay2, shapeCast_self, pay, zero_add]

theorem pay_next (A : Vec Ideal S1024x1024 .f32) (B : Vec Ideal S512x1024 .bf16) (C : Vec Ideal S1024x512 .f32) (y : S1024x512.Idx) :
    k0_pay3 (F := Ideal) A B C y = C y + part A B y := by
  rw [k0_pay3, shapeCast_self, ← pay]
  rfl

theorem pay_out (C D : Vec Ideal S1024x512 .f32) (y : S1024x512.Idx) :
    k0_pay4 (F := Ideal) C D y = @HAdd.hAdd EReal EReal EReal _ (C y) (alpha * D y) := by
  idx_vars y
  open_payloads
  pointwise

theorem acc_A (t : Fin cfg0.N) (h0 : t.val % 7 = 0) (y : S1024x512.Idx) :
    (outsAt0 m c t.val t.isLt).2 y = 0 + part (iblk m c 0 t) (iblk m c 1 t) y := by
  rw [outsAt0_A m c t h0 (by omega) (by omega)]
  frame_out
  exact pay_first _ _ y

theorem acc_S (t : Fin cfg0.N) (h0 : ¬ t.val % 7 = 0) (y : S1024x512.Idx) :
    (outsAt0 m c t.val t.isLt).2 y = (outsAt0 m c (t.val - 1) (Nat.lt_of_le_of_lt (Nat.sub_le _ _) t.isLt)).2 y + part (iblk m c 0 t) (iblk m c 1 t) y := by
  by_cases h2 : t.val % 7 = 6
  · rw [outsAt0_C m c t h0 (by omega) h2]
    frame_out
    exact (pay_next _ _ _ y).trans (by rw [(Memref.isWhole_whole cc0_scratch0).read_unread])
  · rw [outsAt0_B m c t h0 (by omega) h2]
    frame_out
    exact (pay_next _ _ _ y).trans (by rw [(Memref.isWhole_whole cc0_scratch0).read_unread])

theorem out_C (t : Fin cfg0.N) (h2 : t.val % 7 = 6) (y : S1024x512.Idx) :
    (outsAt0 m c t.val t.isLt).1 y = (outsAt0 m c t.val t.isLt).2 y + alpha * iblk m c 2 t y := by
  rw [outsAt0_C m c t (by omega) (by omega) h2]
  frame_out
  exact pay_out _ _ y

/-- Which block of each array a point works on. -/
theorem idx : ∀ t : Fin cfg0.N, win0_0.index t = ![t.val / 14, t.val % 7] ∧ win0_1.index t = ![t.val / 7 % 2, t.val % 7]
    ∧ win0_2.index t = ![t.val / 14, t.val / 7 % 2] :=
  (by decide +kernel : ∀ t : Fin grid0.N, _)

theorem blk_add (t : Fin cfg0.N) (y : S1024x512.Idx) (i : S2048x1024.Idx) (h0 : (i 0).val = t.val / 14 * 1024 + (y 0).val)
    (h1 : (i 1).val = t.val / 7 % 2 * 512 + (y 1).val) : iblk m c 2 t y = m ((c : Thread nD τ).loc main_arg2) i := by
  idx_vars y
  idx_vars i
  blk_ext [iblk, V, idx t]

theorem out_eq (i : S2048x1024.Idx) : G3 m c i
    = @HAdd.hAdd EReal EReal EReal _ (∑ k : Fin 7168, @HMul.hMul EReal EReal EReal _ (m ((c : Thread nD τ).loc main_arg0) (ix2 (i 0) k)) (m ((c : Thread nD τ).loc main_arg1) (ix2 (i 1) k)))
      (alpha * m ((c : Thread nD τ).loc main_arg2) i) := by
  have hi0 : (i 0).val < 2048 := (i 0).isLt
  have hi1 : (i 1).val < 1024 := (i 1).isLt
  have hN : cfg0.N = 28 := N_0
  have hpt : pt3Of i = 7 * (2 * ((i 0).val / 1024 - 0) + 1 * ((i 1).val / 512 - 0)) + 6 := rfl
  have hp : pt3Of i < cfg0.N := by rw [hN]; omega
  rw [G3, dif_pos hp, ← outsAt0_sweep m c _ hp]
  have h2 : (⟨pt3Of i, hp⟩ : Fin cfg0.N).val % 7 = 6 := by show pt3Of i % 7 = 6; omega
  refine (out_C m c ⟨pt3Of i, hp⟩ h2 (loc3Of i)).trans ?_
  rw [blk_add m c ⟨pt3Of i, hp⟩ (loc3Of i) i (by show _ = pt3Of i / 14 * 1024 + (i 0).val % 1024; omega) (by show _ = pt3Of i / 7 % 2 * 512 + (i 1).val % 512; omega)]
  refine congrArg (fun s : EReal => s + alpha * m ((c : Thread nD τ).loc main_arg2) i) ?_
  have h := Pipeline.eq_sum_fin_of_reset_step_apply_of_flush (fun n h => (outsAt0 m c n h).2) 7 (fun _ => 0)
    (fun t y => part (iblk m c 0 t) (iblk m c 1 t) y) (acc_A m c) (acc_S m c) ⟨pt3Of i, hp⟩ h2 (loc3Of i)
  refine h.trans ?_
  rw [zero_add]
  refine Fin.sum_mul_add_congr (n := 1024) fun s k hl => ?_
  generalize hq : (⟨7 * (pt3Of i / 7) + s.val, _⟩ : Fin cfg0.N) = t
  have ht : t.val = 7 * (pt3Of i / 7) + s.val := by rw [← hq]
  have hs := s.isLt
  have e0 : t.val / 14 = (i 0).val / 1024 := by rw [ht]; omega
  have e1 : t.val / 7 % 2 = (i 1).val / 512 := by rw [ht]; omega
  have e2 : t.val % 7 = s.val := by rw [ht]; omega
  have ha : iblk m c 0 t (ix2 (loc3Of i 0) k) = m ((c : Thread nD τ).loc main_arg0) (ix2 (i 0) ⟨s.val * 1024 + k.val, hl⟩) := by
    blk_ext [iblk, V, idx t, e0, e1, e2]
  have hb : iblk m c 1 t (ix2 (loc3Of i 1) k) = m ((c : Thread nD τ).loc main_arg1) (ix2 (i 1) ⟨s.val * 1024 + k.val, hl⟩) := by
    blk_ext [iblk, V, idx t, e0, e1, e2]
  show @HMul.hMul EReal EReal EReal _ (iblk m c 0 t (ix2 (loc3Of i 0) k)) (iblk m c 1 t (ix2 (loc3Of i 1) k)) = _
  rw [ha, hb]

end Cert.Kernel2Ideal.Mm

end
-- ==== Proof.MmInDw.lean ====
/- The gradient of the weight in the product into the gate: what the call's output array holds. -/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Mm

open Cert.Kernel3Ideal Cert.Kernel3Ideal.Gen Cert.Kernel3Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem pay (A : Vec Ideal S1024x2048 .bf16) (B : Vec Ideal S2048x512 .f32) (y : S1024x512.Idx) :
    k0_pay4 (F := Ideal) A B y = ∑ k : Fin 2048, @HMul.hMul EReal EReal EReal _ (A (ix2 (y 0) k)) (B (ix2 k (y 1))) := by
  idx_vars y
  open_payloads
  pointwise

theorem sc_A (t : Fin cfg0.N) (h0 : t.val % 14 = 0) (r : Fin 1024) (l : Fin 2048) :
    (outsAt0 m c t.val t.isLt).2 (ix2 r l) = iblk m c 0 t (ix2 l r) := by
  rw [outsAt0_A m c t h0]
  frame_out
  generalize iblk m c 0 t = A
  generalize hy : (ix2 r l : S1024x2048.Idx) = y
  have e0 : (y 0).val = r.val := by rw [← hy]; rfl
  have e1 : (y 1).val = l.val := by rw [← hy]; rfl
  canon_tiles x h
  all_goals
    obtain rfl : r = x 0 := Fin.ext (by omega)
    idx_vars x
    open_payloads
    pointwise
    refine congrArg A (congrArg (fun q => ix2 q _) (Fin.ext ?_))
    exact h1.symm.trans e1

theorem sc_B (t : Fin cfg0.N) (h0 : ¬ t.val % 14 = 0) :
    (outsAt0 m c t.val t.isLt).2 = (outsAt0 m c (t.val - 1) (Nat.lt_of_le_of_lt (Nat.sub_le _ _) t.isLt)).2 := by
  rw [outsAt0_B m c t h0]
  rfl

theorem out_eq_pay (t : Fin cfg0.N) : (outsAt0 m c t.val t.isLt).1 = k0_pay4 (F := Ideal) (outsAt0 m c t.val t.isLt).2 (iblk m c 1 t) := by
  by_cases h0 : t.val % 14 = 0
  · rw [outsAt0_A m c t h0]
    frame_out
    refine congrArg (fun s => k0_pay4 s _) ?_
    rw [View.readCov_eq_canon']
    exact View.ld_unit_zero (by funext a; fin_cases a <;> rfl) _ _
  · rw [sc_B m c t h0, outsAt0_B m c t h0]
    frame_out
    rw [(Memref.isWhole_whole cc0_scratch0).read_unread]

/-- Which block of each array a point works on. -/
theorem idx : ∀ t : Fin cfg0.N, win0_0.index t = ![0, t.val / 14] ∧ win0_1.index t = ![0, t.val % 14] :=
  (by decide +kernel : ∀ t : Fin grid0.N, _)

/-- Between resets the transposed block is the one the points of the run work on. -/
theorem sc_eq : ∀ (n : ℕ) (hn : n < cfg0.N) (r : Fin 1024) (l : Fin 2048) (q : Fin 1024), q.val = n / 14 * 1024 + r.val →
    (outsAt0 m c n hn).2 (ix2 r l) = m ((c : Thread nD τ).loc main_arg0) (ix2 l q)
  | n, hn, r, l, q, hq => by
    by_cases h0 : n % 14 = 0
    · refine (sc_A m c ⟨n, hn⟩ h0 r l).trans ?_
      blk_ext [iblk, V, idx ⟨n, hn⟩]
    · have hlt : n - 1 < n := by omega
      exact (congrFun (sc_B m c ⟨n, hn⟩ h0) _).trans (sc_eq (n - 1) (by omega) r l q (by omega))
  termination_by n => n

theorem out_eq (i : S1024x7168.Idx) : G2 m c i
    = ∑ k : Fin 2048, @HMul.hMul EReal EReal EReal _ (m ((c : Thread nD τ).loc main_arg0) (ix2 k (i 0))) (m ((c : Thread nD τ).loc main_arg1) (ix2 k (i 1))) := by
  have hi0 : (i 0).val < 1024 := (i 0).isLt
  have hi1 : (i 1).val < 7168 := (i 1).isLt
  have hN : cfg0.N = 14 := N_0
  have hpt : pt2Of i = 14 * ((i 0).val / 1024 - 0) + 1 * ((i 1).val / 512 - 0) := rfl
  have hp : pt2Of i < cfg0.N := by rw [hN]; omega
  rw [G2, dif_pos hp, ← outsAt0_sweep m c _ hp]
  refine (congrFun (out_eq_pay m c ⟨pt2Of i, hp⟩) (loc2Of i)).trans ?_
  rw [pay]
  refine Finset.sum_congr rfl fun k _ => ?_
  have e1 : (⟨pt2Of i, hp⟩ : Fin cfg0.N).val % 14 = (i 1).val / 512 := by show pt2Of i % 14 = _; omega
  have ha := sc_eq m c (pt2Of i) hp (loc2Of i 0) k (i 0) (by show _ = _ + (i 0).val % 1024; omega)
  have hb : iblk m c 1 ⟨pt2Of i, hp⟩ (ix2 k (loc2Of i 1)) = m ((c : Thread nD τ).loc main_arg1) (ix2 k (i 1)) := by
    blk_ext [iblk, V, idx ⟨pt2Of i, hp⟩, e1]
  rw [ha, hb]

end Cert.Kernel3Ideal.Mm

end
-- ==== Proof.MmUpDx.lean ====
/- The gradient of the rows in the product up to the hidden width: what the call's output array holds. -/
module

public import proofs.«01_k».proof.Proof.Gen.Kernel4Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Mm

open Cert.Kernel4Ideal Cert.Kernel4Ideal.Gen Cert.Kernel4Ideal.Value Idealize.ShloMosaic Idealize.ShloMosaic.TcCoe Idealize.SL.Sem
open Idealize.ShloMosaic.Pipeline (Dat)

/-- The product of one pair of blocks. -/
def part (A : Vec Ideal S1024x768 .bf16) (B : Vec Ideal S1x512x768 .bf16) (y : S1024x512.Idx) : EReal :=
  ∑ k : Fin 768, @HMul.hMul EReal EReal EReal _ (A (ix2 (y 0) k)) (B (ix3 0 (y 1) k))

/-- The slot of a column of the hidden width, and its place in the slot. -/
abbrev slot (k : Fin 6144) : Fin 8 := ⟨k.val / 768, by omega⟩
abbrev lane (k : Fin 6144) : Fin 768 := ⟨k.val % 768, by omega⟩

/-- The factor of the residual. -/
abbrev alpha : EReal := Ideal.ofBits .f32 0x3FD744FD#32

variable (m : (ℓ : Loc nD τ sig) → Buf (Elt Ideal) ℓ) (c : Dev nD)

theorem pay (A : Vec Ideal S1024x768 .bf16) (B : Vec Ideal S1x512x768 .bf16) (y : S1024x512.Idx) : k0_pay1 (F := Ideal) A B y = part A B y := by
  idx_vars y
  open_payloads
  pointwise
  rfl

theorem pay_first (A : Vec Ideal S1024x768 .bf16) (B : Vec Ideal S1x512x768 .bf16) (y : S1024x512.Idx) : k0_pay2 (F := Ideal) A B y = 0 + part A B y := by
  rw [k0_pay2, shapeCast_self, pay, zero_add]

theorem pay_next (A : Vec Ideal S1024x768 .bf16) (B : Vec Ideal S1x512x768 .bf16) (C : Vec Ideal S1024x512 .f32) (y : S1024x512.Idx) :
    k0_pay3 (F := Ideal) A B C y = C y + part A B y := by
  rw [k0_pay3, shapeCast_self, ← pay]
  rfl

theorem pay_out (C D : Vec Ideal S1024x512 .f32) (y : S1024x512.Idx) :
    k0_pay4 (F := Ideal) C D y = @HAdd.hAdd EReal EReal EReal _ (C y) (alpha * D y) := by
  idx_vars y
  open_payloads
  pointwise

theorem acc_A (t : Fin cfg0.N) (h0 : t.val % 8 = 0) (y : S1024x512.Idx) :
    (outsAt0 m c t.val t.isLt).2 y = 0 + part (iblk m c 0 t) (iblk m c 1 t) y := by
  rw [outsAt0_A m c t h0 (by omega) (by omega)]
  frame_out
  exact pay_first _ _ y

theorem acc_S (t : Fin cfg0.N) (h0 : ¬ t.val % 8 = 0) (y : S1024x512.Idx) :
    (outsAt0 m c t.val t.isLt).2 y = (outsAt0 m c (t.val - 1) (Nat.lt_of_le_of_lt (Nat.sub_le _ _) t.isLt)).2 y + part (iblk m c 0 t) (iblk m c 1 t) y := by
  by_cases h2 : t.val % 8 = 7
  · rw [outsAt0_C m c t h0 (by omega) h2]
    frame_out
    exact (pay_next _ _ _ y).trans (by rw [(Memref.isWhole_whole cc0_scratch0).read_unread])
  · rw [outsAt0_B m c t h0 (by omega) h2]
    frame_out
    exact (pay_next _ _ _ y).trans (by rw [(Memref.isWhole_whole cc0_scratch0).read_unread])

theorem out_C (t : Fin cfg0.N) (h2 : t.val % 8 = 7) (y : S1024x512.Idx) :
    (outsAt0 m c t.val t.isLt).1 y = (outsAt0 m c t.val t.isLt).2 y + alpha * iblk m c 2 t y := by
  rw [outsAt0_C m c t (by omega) (by omega) h2]
  frame_out
  exact pay_out _ _ y

/-- Which block of each array a point works on. -/
theorem idx : ∀ t : Fin cfg0.N, win0_0.index t = ![t.val / 16, t.val % 8] ∧ win0_1.index t = ![t.val % 8, t.val / 8 % 2, 0]
    ∧ win0_2.index t = ![t.val / 16, t.val / 8 % 2] :=
  (by decide +kernel : ∀ t : Fin grid0.N, _)

theorem blk_add (t : Fin cfg0.N) (y : S1024x512.Idx) (i : S2048x1024.Idx) (h0 : (i 0).val = t.val / 16 * 1024 + (y 0).val)
    (h1 : (i 1).val = t.val / 8 % 2 * 512 + (y 1).val) : iblk m c 2 t y = m ((c : Thread nD τ).loc main_arg2) i := by
  idx_vars y
  idx_vars i
  blk_ext [iblk, V, idx t]

theorem out_eq (i : S2048x1024.Idx) : G3 m c i
    = @HAdd.hAdd EReal EReal EReal _ (∑ k : Fin 6144, @HMul.hMul EReal EReal EReal _ (m ((c : Thread nD τ).loc main_arg0) (ix2 (i 0) k)) (m ((c : Thread nD τ).loc main_arg1) (ix3 (slot k) (i 1) (lane k))))
      (alpha * m ((c : Thread nD τ).loc main_arg2) i) := by
  have hi0 : (i 0).val < 2048 := (i 0).isLt
  have hi1 : (i 1).val < 1024 := (i 1).isLt
  have hN : cfg0.N = 32 := N_0
  have hpt : pt3Of i = 8 * (2 * ((i 0).val / 1024 - 0) + 1 * ((i 1).val / 512 - 0)) + 7 := rfl
  have hp : pt3Of i < cfg0.N := by rw [hN]; omega
  rw [G3, dif_pos hp, ← outsAt0_sweep m c _ hp]
  have h2 : (⟨pt3Of i, hp⟩ : Fin cfg0.N).val % 8 = 7 := by show pt3Of i % 8 = 7; omega
  refine (out_C m c ⟨pt3Of i, hp⟩ h2 (loc3Of i)).trans ?_
  rw [blk_add m c ⟨pt3Of i, hp⟩ (loc3Of i) i (by show _ = pt3Of i / 16 * 1024 + (i 0).val % 1024; omega) (by show _ = pt3Of i / 8 % 2 * 512 + (i 1).val % 512; omega)]
  refine congrArg (fun s : EReal => s + alpha * m ((c : Thread nD τ).loc main_arg2) i) ?_
  have h := Pipeline.eq_sum_fin_of_reset_step_apply_of_flush (fun n h => (outsAt0 m c n h).2) 8 (fun _ => 0)
    (fun t y => part (iblk m c 0 t) (iblk m c 1 t) y) (acc_A m c) (acc_S m c) ⟨pt3Of i, hp⟩ h2 (loc3Of i)
  refine h.trans ?_
  rw [zero_add]
  refine Fin.sum_mul_add_congr (n := 768) fun s k hl => ?_
  generalize hq : (⟨8 * (pt3Of i / 8) + s.val, _⟩ : Fin cfg0.N) = t
  have ht : t.val = 8 * (pt3Of i / 8) + s.val := by rw [← hq]
  have hs := s.isLt
  have e0 : t.val / 16 = (i 0).val / 1024 := by rw [ht]; omega
  have e1 : t.val / 8 % 2 = (i 1).val / 512 := by rw [ht]; omega
  have e2 : t.val % 8 = s.val := by rw [ht]; omega
  have ha : iblk m c 0 t (ix2 (loc3Of i 0) k) = m ((c : Thread nD τ).loc main_arg0) (ix2 (i 0) ⟨s.val * 768 + k.val, hl⟩) := by
    blk_ext [iblk, V, idx t, e0, e1, e2]
  have es : slot ⟨s.val * 768 + k.val, hl⟩ = s := Fin.ext (by show (s.val * 768 + k.val) / 768 = s.val; omega)
  have el : lane ⟨s.val * 768 + k.val, hl⟩ = k := Fin.ext (by show (s.val * 768 + k.val) % 768 = k.val; omega)
  have hb : iblk m c 1 t (ix3 0 (loc3Of i 1) k) = m ((c : Thread nD τ).loc main_arg1) (ix3 s (i 1) k) := by
    blk_ext [iblk, V, idx t, e0, e1, e2]
  show @HMul.hMul EReal EReal EReal _ (iblk m c 0 t (ix2 (loc3Of i 0) k)) (iblk m c 1 t (ix3 0 (loc3Of i 1) k)) = _
  rw [ha, hb, es, el]

end Cert.Kernel4Ideal.Mm

end
-- ==== Proof.MmUpDw.lean ====
/- The gradient of the weight in the product up to the hidden width: what the call's output array holds. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Mm

open Cert.Kernel5Ideal Cert.Kernel5Ideal.Gen Cert.Kernel5Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem pay (A : Vec Ideal S1024x2048 .bf16) (B : Vec Ideal S2048x768 .bf16) (a : Fin 1024) (b : Fin 768) :
    k0_pay4 (F := Ideal) A B (ix3 0 a b) = ∑ k : Fin 2048, @HMul.hMul EReal EReal EReal _ (A (ix2 a k)) (B (ix2 k b)) := by
  open_payloads
  pointwise

theorem sc_A (t : Fin cfg0.N) (h0 : t.val % 8 = 0) (r : Fin 1024) (l : Fin 2048) :
    (outsAt0 m c t.val t.isLt).2 (ix2 r l) = iblk m c 0 t (ix2 l r) := by
  rw [outsAt0_A m c t h0]
  frame_out
  generalize iblk m c 0 t = A
  generalize hy : (ix2 r l : S1024x2048.Idx) = y
  have e0 : (y 0).val = r.val := by rw [← hy]; rfl
  have e1 : (y 1).val = l.val := by rw [← hy]; rfl
  canon_tiles x h
  all_goals
    obtain rfl : r = x 0 := Fin.ext (by omega)
    idx_vars x
    open_payloads
    pointwise
    refine congrArg A (congrArg (fun q => ix2 q _) (Fin.ext ?_))
    exact h1.symm.trans e1

theorem sc_B (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

theorem out_eq_pay (t : Fin cfg0.N) : (outsAt0 m c t.val t.isLt).1 = k0_pay4 (F := Ideal) (outsAt0 m c t.val t.isLt).2 (iblk m c 1 t) := by
  by_cases h0 : t.val % 8 = 0
  · rw [outsAt0_A m c t h0]
    frame_out
    refine congrArg (fun s => k0_pay4 s _) ?_
    rw [View.readCov_eq_canon']
    exact View.ld_unit_zero (by funext a; fin_cases a <;> rfl) _ _
  · rw [sc_B m c t h0, outsAt0_B m c t h0]
    frame_out
    rw [(Memref.isWhole_whole cc0_scratch0).read_unread]

/-- Which block of each array a point works on. -/
theorem idx : ∀ t : Fin cfg0.N, win0_0.index t = ![0, t.val / 8] ∧ win0_1.index t = ![0, t.val % 8] :=
  (by decide +kernel : ∀ t : Fin grid0.N, _)

/-- Between resets the transposed block is the one the points of the run work on. -/
theorem sc_eq : ∀ (n : ℕ) (hn : n < cfg0.N) (r : Fin 1024) (l : Fin 2048) (q : Fin 1024), q.val = n / 8 * 1024 + r.val →
    (outsAt0 m c n hn).2 (ix2 r l) = m ((c : Thread nD τ).loc main_arg0) (ix2 l q)
  | n, hn, r, l, q, hq => by
    by_cases h0 : n % 8 = 0
    · refine (sc_A m c ⟨n, hn⟩ h0 r l).trans ?_
      blk_ext [iblk, V, idx ⟨n, hn⟩]
    · have hlt : n - 1 < n := by omega
      exact (congrFun (sc_B m c ⟨n, hn⟩ h0) _).trans (sc_eq (n - 1) (by omega) r l q (by omega))
  termination_by n => n

theorem out_eq (i : S8x1024x768.Idx) : G2 m c i
    = ∑ k : Fin 2048, @HMul.hMul EReal EReal EReal _ (m ((c : Thread nD τ).loc main_arg0) (ix2 k (i 1)))
        (m ((c : Thread nD τ).loc main_arg1) (ix2 k ⟨(i 0).val * 768 + (i 2).val, by
          have h0 : (i 0).val < 8 := (i 0).isLt
          have h2 : (i 2).val < 768 := (i 2).isLt
          omega⟩)) := by
  idx_vars i
  have hN : cfg0.N = 8 := N_0
  have hpt : pt2Of (ix3 i0 i1 i2) = 1 * (i0.val / 1 - 0) + 1 * (i1.val / 1024 - 0) + 1 * (i2.val / 768 - 0) := rfl
  have hp : pt2Of (ix3 i0 i1 i2) < cfg0.N := by rw [hN]; omega
  rw [G2, dif_pos hp, ← outsAt0_sweep m c _ hp]
  have hl : loc2Of (ix3 i0 i1 i2) = ix3 0 i1 i2 := by
    funext a
    apply Fin.ext
    match a with
    | ⟨0, _⟩ => exact Nat.mod_one _
    | ⟨1, _⟩ => exact Nat.mod_eq_of_lt i1.isLt
    | ⟨2, _⟩ => exact Nat.mod_eq_of_lt i2.isLt
  rw [hl]
  refine (congrFun (out_eq_pay m c ⟨pt2Of (ix3 i0 i1 i2), hp⟩) (ix3 0 i1 i2)).trans ?_
  rw [pay]
  refine Finset.sum_congr rfl fun k _ => ?_
  have e1 : (⟨pt2Of (ix3 i0 i1 i2), hp⟩ : Fin cfg0.N).val % 8 = i0.val := by show pt2Of (ix3 i0 i1 i2) % 8 = _; omega
  have ha := sc_eq m c (pt2Of (ix3 i0 i1 i2)) hp i1 k i1 (by omega)
  have hb : iblk m c 1 ⟨pt2Of (ix3 i0 i1 i2), hp⟩ (ix2 k i2) = m ((c : Thread nD τ).loc main_arg1) (ix2 k ⟨i0.val * 768 + i2.val, by omega⟩) := by
    blk_ext [iblk, V, idx ⟨pt2Of (ix3 i0 i1 i2), hp⟩, e1]
  rw [ha, hb]

end Cert.Kernel5Ideal.Mm

end
-- ==== Proof.MmDownDx.lean ====
/- The gradient of the rows in the product out of the gate: what the call's output array holds. -/
module

public import proofs.«01_k».proof.Proof.Gen.Kernel6Ideal.Value
public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Mm

open Cert.Kernel6Ideal Cert.Kernel6Ideal.Gen Cert.Kernel6Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem pay (A : Vec Ideal S1024x1024 .f32) (B : Vec Ideal S512x1024 .bf16) (r : Fin 1024) (l : Fin 512) :
    k0_pay1 (F := Ideal) A B (ix2 r l) = ∑ k : Fin 1024, @HMul.hMul EReal EReal EReal _ (A (ix2 r k)) (B (ix2 l k)) := by
  open_payloads
  pointwise

theorem out_blk (A : Vec Ideal S1024x1024 .f32) (B : Vec Ideal S512x1024 .bf16) (r : Fin 1024) (l : Fin 512) :
    out0_2 (F := Ideal) A B (ix2 r l) = ∑ k : Fin 1024, @HMul.hMul EReal EReal EReal _ (A (ix2 r k)) (B (ix2 l k)) := by
  rw [← pay]
  unfold out0_2
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _]

/-- Which block of each array a point works on. -/
theorem idx : ∀ t : Fin cfg0.N, win0_0.index t = ![t.val / 6, 0] ∧ win0_1.index t = ![t.val % 6, 0] ∧ win0_2.index t = ![t.val / 6, t.val % 6] :=
  (by decide +kernel : ∀ t : Fin grid0.N, _)

theorem out_eq : (dats m 0 c).arrAt 2 cfg0.N = fun i => ∑ k : Fin 1024, @HMul.hMul EReal EReal EReal _
    (m ((c : Thread nD τ).loc main_arg0) (ix2 (i 0) k)) (m ((c : Thread nD τ).loc main_arg1) (ix2 (i 1) k)) := by
  refine (dats m 0 c).arrAt_eq_of_covers 2 _ (by decide +kernel) fun t _ y => ?_
  blk_simp
  rw [after0_2]
  idx_vars y
  have hN : cfg0.N = 12 := N_0
  have ht : t.val < 12 := lt_of_lt_of_eq t.isLt N_0
  have hi : ((View.whole main_v0).slice (win0_2.rect t)).emb (ix2 y0 y1) = ix2 ⟨t.val / 6 * 1024 + y0.val, by omega⟩ ⟨t.val % 6 * 512 + y1.val, by omega⟩ := by
    blk_ext [idx t]
  rw [hi, out_blk]
  show ∑ k : Fin 1024, @HMul.hMul EReal EReal EReal _ (iblk m c 0 t (ix2 y0 k)) (iblk m c 1 t (ix2 y1 k))
    = ∑ k : Fin 1024, @HMul.hMul EReal EReal EReal _ (m ((c : Thread nD τ).loc main_arg0) (ix2 ⟨t.val / 6 * 1024 + y0.val, by omega⟩ k))
      (m ((c : Thread nD τ).loc main_arg1) (ix2 ⟨t.val % 6 * 512 + y1.val, by omega⟩ k))
  refine Finset.sum_congr rfl fun k _ => ?_
  have ha : iblk m c 0 t (ix2 y0 k) = m ((c : Thread nD τ).loc main_arg0) (ix2 ⟨t.val / 6 * 1024 + y0.val, by omega⟩ k) := by
    blk_ext [iblk, V, idx t]
  have hb : iblk m c 1 t (ix2 y1 k) = m ((c : Thread nD τ).loc main_arg1) (ix2 ⟨t.val % 6 * 512 + y1.val, by omega⟩ k) := by
    blk_ext [iblk, V, idx t]
  rw [ha, hb]

end Cert.Kernel6Ideal.Mm

end
-- ==== Proof.MmDownDw.lean ====
/- The gradient of the weight in the product out of the gate: what the call's output array holds. -/
module

public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.Mm

open Cert.Kernel7Ideal Cert.Kernel7Ideal.Gen Cert.Kernel7Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem pay (A : Vec Ideal S1024x2048 .bf16) (B : Vec Ideal S2048x512 .f32) (y : S1024x512.Idx) :
    k0_pay4 (F := Ideal) A B y = ∑ k : Fin 2048, @HMul.hMul EReal EReal EReal _ (A (ix2 (y 0) k)) (B (ix2 k (y 1))) := by
  idx_vars y
  open_payloads
  pointwise

theorem sc_A (t : Fin cfg0.N) (h0 : t.val % 2 = 0) (r : Fin 1024) (l : Fin 2048) :
    (outsAt0 m c t.val t.isLt).2 (ix2 r l) = iblk m c 0 t (ix2 l r) := by
  rw [outsAt0_A m c t h0]
  frame_out
  generalize iblk m c 0 t = A
  generalize hy : (ix2 r l : S1024x2048.Idx) = y
  have e0 : (y 0).val = r.val := by rw [← hy]; rfl
  have e1 : (y 1).val = l.val := by rw [← hy]; rfl
  canon_tiles x h
  all_goals
    obtain rfl : r = x 0 := Fin.ext (by omega)
    idx_vars x
    open_payloads
    pointwise
    refine congrArg A (congrArg (fun q => ix2 q _) (Fin.ext ?_))
    exact h1.symm.trans e1

theorem sc_B (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

theorem out_eq_pay (t : Fin cfg0.N) : (outsAt0 m c t.val t.isLt).1 = k0_pay4 (F := Ideal) (outsAt0 m c t.val t.isLt).2 (iblk m c 1 t) := by
  by_cases h0 : t.val % 2 = 0
  · rw [outsAt0_A m c t h0]
    frame_out
    refine congrArg (fun s => k0_pay4 s _) ?_
    rw [View.readCov_eq_canon']
    exact View.ld_unit_zero (by funext a; fin_cases a <;> rfl) _ _
  · rw [sc_B m c t h0, outsAt0_B m c t h0]
    frame_out
    rw [(Memref.isWhole_whole cc0_scratch0).read_unread]

/-- Which block of each array a point works on. -/
theorem idx : ∀ t : Fin cfg0.N, win0_0.index t = ![0, t.val / 2] ∧ win0_1.index t = ![0, t.val % 2] :=
  (by decide +kernel : ∀ t : Fin grid0.N, _)

/-- Between resets the transposed block is the one the points of the run work on. -/
theorem sc_eq : ∀ (n : ℕ) (hn : n < cfg0.N) (r : Fin 1024) (l : Fin 2048) (q : Fin 3072), q.val = n / 2 * 1024 + r.val →
    (outsAt0 m c n hn).2 (ix2 r l) = m ((c : Thread nD τ).loc main_arg0) (ix2 l q)
  | n, hn, r, l, q, hq => by
    by_cases h0 : n % 2 = 0
    · refine (sc_A m c ⟨n, hn⟩ h0 r l).trans ?_
      blk_ext [iblk, V, idx ⟨n, hn⟩]
    · have hlt : n - 1 < n := by omega
      exact (congrFun (sc_B m c ⟨n, hn⟩ h0) _).trans (sc_eq (n - 1) (by omega) r l q (by omega))
  termination_by n => n

theorem out_eq (i : S3072x1024.Idx) : G2 m c i
    = ∑ k : Fin 2048, @HMul.hMul EReal EReal EReal _ (m ((c : Thread nD τ).loc main_arg0) (ix2 k (i 0))) (m ((c : Thread nD τ).loc main_arg1) (ix2 k (i 1))) := by
  have hi0 : (i 0).val < 3072 := (i 0).isLt
  have hi1 : (i 1).val < 1024 := (i 1).isLt
  have hN : cfg0.N = 6 := N_0
  have hpt : pt2Of i = 2 * ((i 0).val / 1024 - 0) + 1 * ((i 1).val / 512 - 0) := rfl
  have hp : pt2Of i < cfg0.N := by rw [hN]; omega
  rw [G2, dif_pos hp, ← outsAt0_sweep m c _ hp]
  refine (congrFun (out_eq_pay m c ⟨pt2Of i, hp⟩) (loc2Of i)).trans ?_
  rw [pay]
  refine Finset.sum_congr rfl fun k _ => ?_
  have e1 : (⟨pt2Of i, hp⟩ : Fin cfg0.N).val % 2 = (i 1).val / 512 := by show pt2Of i % 2 = _; omega
  have ha := sc_eq m c (pt2Of i) hp (loc2Of i 0) k (i 0) (by show _ = _ + (i 0).val % 1024; omega)
  have hb : iblk m c 1 ⟨pt2Of i, hp⟩ (ix2 k (loc2Of i 1)) = m ((c : Thread nD τ).loc main_arg1) (ix2 k (i 1)) := by
    blk_ext [iblk, V, idx ⟨pt2Of i, hp⟩, e1]
  rw [ha, hb]

end Cert.Kernel7Ideal.Mm

end
-- ==== Proof.MmRef.lean ====
/- The references of the six gradients of products: each result as a sum of products. -/
module

public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.Gen.Reference6Ideal.Read
public import proofs.«01_k».proof.Proof.Gen.Reference7Ideal.Read
public import Idealize.ShloMosaic.Lib.Pointwise

@[expose] public section

set_option maxRecDepth 16384

noncomputable section

open Idealize.ShloMosaic Idealize.ShloMosaic.TcCoe

namespace Cert.Reference2Ideal.Mm

open Cert.Reference2Ideal Cert.Reference2Ideal.Gen Cert.Reference2Ideal.Read

theorem closed (x0 : (⟨S2048x7168, .f32⟩ : BufTy).Contents (Elt Ideal)) (x1 : (⟨S1024x7168, .bf16⟩ : BufTy).Contents (Elt Ideal))
    (x2 : (⟨S2048x1024, .f32⟩ : BufTy).Contents (Elt Ideal)) (i : S2048x1024.Idx) : val_main_v8 (F := Ideal) x0 x1 x2 i
      = @HAdd.hAdd EReal EReal EReal _ (∑ k : Fin 7168, @HMul.hMul EReal EReal EReal _ (x0 (ix2 (i 0) k)) (x1 (ix2 (i 1) k)))
        (Ideal.ofBits .f32 0x3FD744FD#32 * x2 i) := by
  idx_vars i
  pointwise [val_main_v8, val_main_v7, val_main_v6, val_main_v5, val_main_v1, val_main_cst]
  exact add_comm _ _

end Cert.Reference2Ideal.Mm

namespace Cert.Reference3Ideal.Mm

open Cert.Reference3Ideal Cert.Reference3Ideal.Gen Cert.Reference3Ideal.Read

theorem closed (x0 : (⟨S2048x1024, .f32⟩ : BufTy).Contents (Elt Ideal)) (x1 : (⟨S2048x7168, .f32⟩ : BufTy).Contents (Elt Ideal))
    (i : S1024x7168.Idx) : val_main_v3 (F := Ideal) x0 x1 i
      = ∑ k : Fin 2048, @HMul.hMul EReal EReal EReal _ (x0 (ix2 k (i 0))) (x1 (ix2 k (i 1))) := by
  idx_vars i
  pointwise [val_main_v3, val_main_v2]
  exact Finset.sum_congr rfl fun _ _ => mul_comm _ _

end Cert.Reference3Ideal.Mm

namespace Cert.Reference4Ideal.Mm

open Cert.Reference4Ideal Cert.Reference4Ideal.Gen Cert.Reference4Ideal.Read

theorem closed (x0 : (⟨S2048x6144, .bf16⟩ : BufTy).Contents (Elt Ideal)) (x1 : (⟨S8x1024x768, .bf16⟩ : BufTy).Contents (Elt Ideal))
    (x2 : (⟨S2048x1024, .f32⟩ : BufTy).Contents (Elt Ideal)) (i : S2048x1024.Idx) : val_main_v11 (F := Ideal) x0 x1 x2 i
      = @HAdd.hAdd EReal EReal EReal _ (∑ k : Fin 6144, @HMul.hMul EReal EReal EReal _ (x0 (ix2 (i 0) k))
          (x1 (ix3 ⟨k.val / 768, by omega⟩ (i 1) ⟨k.val % 768, by omega⟩)))
        (Ideal.ofBits .f32 0x3FD744FD#32 * x2 i) := by
  idx_vars i
  rw [val_main_v11_apply, val_main_v10_apply, val_main_v9_apply]
  refine (add_comm _ _).trans ?_
  refine congrArg (fun s : EReal => s + Ideal.ofBits .f32 0x3FD744FD#32 * x2 (ix2 i0 i1)) ?_
  refine Finset.sum_congr rfl fun k _ => ?_
  have hk := k.isLt
  rw [val_main_v7_apply, val_main_v3_apply, val_main_v2_apply, val_main_v1_apply]
  have e : idx_main_v2 (idx_main_v3 (ridx_main_v10 (ix2 i0 i1) k)) = ix3 ⟨k.val / 768, by omega⟩ i1 ⟨k.val % 768, by omega⟩ := by
    funext a
    apply Fin.ext
    match a with
    | ⟨0, _⟩ => show (i1.val * 6144 + k.val) / 768 % 8 = k.val / 768; omega
    | ⟨1, _⟩ => show (i1.val * 6144 + k.val) / 6144 = i1.val; omega
    | ⟨2, _⟩ => show (i1.val * 6144 + k.val) % 768 = k.val % 768; omega
  rw [e]
  have e' : lidx_main_v10 (ix2 i0 i1) k = ix2 i0 k := by
    funext a
    match a with
    | ⟨0, _⟩ => rfl
    | ⟨1, _⟩ => rfl
  rw [e']
  rfl

end Cert.Reference4Ideal.Mm

namespace Cert.Reference5Ideal.Mm

open Cert.Reference5Ideal Cert.Reference5Ideal.Gen Cert.Reference5Ideal.Read

theorem closed (x0 : (⟨S2048x1024, .f32⟩ : BufTy).Contents (Elt Ideal)) (x1 : (⟨S2048x6144, .bf16⟩ : BufTy).Contents (Elt Ideal))
    (i : S8x1024x768.Idx) : val_main_v8 (F := Ideal) x0 x1 i
      = ∑ k : Fin 2048, @HMul.hMul EReal EReal EReal _ (x0 (ix2 k (i 1))) (x1 (ix2 k ⟨(i 0).val * 768 + (i 2).val, by
          have h0 : (i 0).val < 8 := (i 0).isLt
          have h2 : (i 2).val < 768 := (i 2).isLt
          omega⟩)) := by
  idx_vars i
  rw [val_main_v8_apply, val_main_v7_apply, val_main_v6_apply, val_main_v5_apply]
  refine Finset.sum_congr rfl fun k _ => ?_
  rw [val_main_v4_apply]
  have e : lidx_main_v5 (idx_main_v6 (idx_main_v7 (idx_main_v8 (ix3 i0 i1 i2)))) k = ix2 k ⟨i0.val * 768 + i2.val, by omega⟩ := by
    funext a
    apply Fin.ext
    match a with
    | ⟨0, _⟩ => rfl
    | ⟨1, _⟩ => show ((i1.val * 8 + i0.val) * 768 + i2.val) % 6144 = i0.val * 768 + i2.val; omega
  have e' : ridx_main_v5 (idx_main_v6 (idx_main_v7 (idx_main_v8 (ix3 i0 i1 i2)))) k = ix2 k i1 := by
    funext a
    apply Fin.ext
    match a with
    | ⟨0, _⟩ => rfl
    | ⟨1, _⟩ => show ((i1.val * 8 + i0.val) * 768 + i2.val) / 6144 = i1.val; omega
  rw [e, e']
  exact mul_comm _ _

end Cert.Reference5Ideal.Mm

namespace Cert.Reference6Ideal.Mm

open Cert.Reference6Ideal Cert.Reference6Ideal.Gen Cert.Reference6Ideal.Read

theorem closed (x0 : (⟨S2048x1024, .f32⟩ : BufTy).Contents (Elt Ideal)) (x1 : (⟨S3072x1024, .bf16⟩ : BufTy).Contents (Elt Ideal))
    (i : S2048x3072.Idx) : val_main_v3 (F := Ideal) x0 x1 i
      = ∑ k : Fin 1024, @HMul.hMul EReal EReal EReal _ (x0 (ix2 (i 0) k)) (x1 (ix2 (i 1) k)) := by
  idx_vars i
  pointwise [val_main_v3, val_main_v1]

end Cert.Reference6Ideal.Mm

namespace Cert.Reference7Ideal.Mm

open Cert.Reference7Ideal Cert.Reference7Ideal.Gen Cert.Reference7Ideal.Read

theorem closed (x0 : (⟨S2048x3072, .bf16⟩ : BufTy).Contents (Elt Ideal)) (x1 : (⟨S2048x1024, .f32⟩ : BufTy).Contents (Elt Ideal))
    (i : S3072x1024.Idx) : val_main_v4 (F := Ideal) x0 x1 i
      = ∑ k : Fin 2048, @HMul.hMul EReal EReal EReal _ (x0 (ix2 k (i 0))) (x1 (ix2 k (i 1))) := by
  idx_vars i
  pointwise [val_main_v4, val_main_v3, val_main_v1]
  exact Finset.sum_congr rfl fun _ _ => mul_comm _ _

end Cert.Reference7Ideal.Mm

end
-- ==== Proof.MmFwd.lean ====
/- The products of the forward pass: what each call's output array holds. -/
module

public import proofs.«01_k».proof.Proof.Gen.Kernel12Ideal.Value
public import proofs.«01_k».proof.Proof.Gen.Kernel12Ideal.Frame
public import proofs.«01_k».proof.Proof.Gen.Kernel13Ideal.Value
public import proofs.«01_k».proof.Proof.Gen.Kernel13Ideal.Frame
public import proofs.«01_k».proof.Proof.Gen.Kernel14Ideal.Value
public import proofs.«01_k».proof.Proof.Gen.Kernel14Ideal.Frame
public import proofs.«01_k».proof.Proof.Gen.Kernel15Ideal.Value
public import proofs.«01_k».proof.Proof.Gen.Kernel15Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Mm

open Cert.Kernel12Ideal Cert.Kernel12Ideal.Gen Cert.Kernel12Ideal.Value

variable (m : (ℓ : Loc nD τ sig) → Buf (Elt Ideal) ℓ) (c : Dev nD)

theorem pay (A : Vec Ideal S1024x1024 .f32) (B : Vec Ideal S1024x512 .bf16) (C : Vec Ideal S1x512 .f32) (r : Fin 1024) (l : Fin 512) :
    k0_pay1 (F := Ideal) A B C (ix2 r l) = @HAdd.hAdd EReal EReal EReal _
      (∑ k : Fin 1024, @HMul.hMul EReal EReal EReal _ (A (ix2 r k)) (B (ix2 k l))) (C (ix2 0 l)) := by
  open_payloads
  pointwise

theorem out_blk (A : Vec Ideal S1024x1024 .f32) (B : Vec Ideal S1024x512 .bf16) (C : Vec Ideal S1x512 .f32) (r : Fin 1024) (l : Fin 512) :
    out0_3 (F := Ideal) A B C (ix2 r l) = @HAdd.hAdd EReal EReal EReal _
      (∑ k : Fin 1024, @HMul.hMul EReal EReal EReal _ (A (ix2 r k)) (B (ix2 k l))) (C (ix2 0 l)) := by
  rw [← pay]
  unfold out0_3
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _,
    show View.ld C r0_2 = C from View.ld_unit_zero (by funext a; fin_cases a <;> rfl) _ _]

/-- Which block of each array a point works on. -/
theorem idx : ∀ t : Fin cfg0.N, win0_0.index t = ![t.val / 14, 0] ∧ win0_1.index t = ![0, t.val % 14] ∧ win0_2.index t = ![0, t.val % 14]
    ∧ win0_3.index t = ![t.val / 14, t.val % 14] :=
  (by decide +kernel : ∀ t : Fin grid0.N, _)

theorem out_eq : (dats m 0 c).arrAt 3 cfg0.N = fun i => @HAdd.hAdd EReal EReal EReal _ (∑ k : Fin 1024, @HMul.hMul EReal EReal EReal _
    (m ((c : Thread nD τ).loc main_arg0) (ix2 (i 0) k)) (m ((c : Thread nD τ).loc main_arg1) (ix2 k (i 1))))
    (m ((c : Thread nD τ).loc main_arg2) (ix2 0 (i 1))) := by
  refine (dats m 0 c).arrAt_eq_of_covers 3 _ (by decide +kernel) fun t _ y => ?_
  blk_simp
  rw [after0_3]
  idx_vars y
  have ht : t.val < 28 := lt_of_lt_of_eq t.isLt N_0
  have hi : ((View.whole main_v0).slice (win0_3.rect t)).emb (ix2 y0 y1) = ix2 ⟨t.val / 14 * 1024 + y0.val, by omega⟩ ⟨t.val % 14 * 512 + y1.val, by omega⟩ := by
    blk_ext [idx t]
  rw [hi, out_blk]
  have hc : iblk m c 2 t (ix2 0 y1) = m ((c : Thread nD τ).loc main_arg2) (ix2 0 ⟨t.val % 14 * 512 + y1.val, by omega⟩) := by
    blk_ext [iblk, V, idx t]
  rw [hc]
  show @HAdd.hAdd EReal EReal EReal _ (∑ k : Fin 1024, @HMul.hMul EReal EReal EReal _ (iblk m c 0 t (ix2 y0 k)) (iblk m c 1 t (ix2 k y1))) _
    = @HAdd.hAdd EReal EReal EReal _ (∑ k : Fin 1024, @HMul.hMul EReal EReal EReal _ (m ((c : Thread nD τ).loc main_arg0) (ix2 ⟨t.val / 14 * 1024 + y0.val, by omega⟩ k))
      (m ((c : Thread nD τ).loc main_arg1) (ix2 k ⟨t.val % 14 * 512 + y1.val, by omega⟩))) _
  refine congrArg (fun s : EReal => s + _) (Finset.sum_congr rfl fun k _ => ?_)
  have ha : iblk m c 0 t (ix2 y0 k) = m ((c : Thread nD τ).loc main_arg0) (ix2 ⟨t.val / 14 * 1024 + y0.val, by omega⟩ k) := by
    blk_ext [iblk, V, idx t]
  have hb : iblk m c 1 t (ix2 k y1) = m ((c : Thread nD τ).loc main_arg1) (ix2 k ⟨t.val % 14 * 512 + y1.val, by omega⟩) := by
    blk_ext [iblk, V, idx t]
  rw [ha, hb]

end Cert.Kernel12Ideal.Mm

namespace Cert.Kernel13Ideal.Mm

open Cert.Kernel13Ideal Cert.Kernel13Ideal.Gen Cert.Kernel13Ideal.Value

/-- The slot of a column of the hidden width, and its place in the slot. -/
def slot (k : Fin 6144) : Fin 8 := ⟨k.val / 768, by omega⟩
def lane (k : Fin 6144) : Fin 768 := ⟨k.val % 768, by omega⟩

variable (m : (ℓ : Loc nD τ sig) → Buf (Elt Ideal) ℓ) (c : Dev nD)

theorem pay (A : Vec Ideal S1024x1024 .f32) (B : Vec Ideal S1x1024x768 .bf16) (r : Fin 1024) (l : Fin 768) :
    k0_pay1 (F := Ideal) A B (ix2 r l) = ∑ k : Fin 1024, @HMul.hMul EReal EReal EReal _ (A (ix2 r k)) (B (ix3 0 k l)) := by
  open_payloads
  pointwise

theorem out_blk (A : Vec Ideal S1024x1024 .f32) (B : Vec Ideal S1x1024x768 .bf16) (r : Fin 1024) (l : Fin 768) :
    out0_2 (F := Ideal) A B (ix2 r l) = ∑ k : Fin 1024, @HMul.hMul EReal EReal EReal _ (A (ix2 r k)) (B (ix3 0 k l)) := by
  rw [← pay]
  unfold out0_2
  generalize hy : (ix2 r l : S1024x768.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _]

/-- Which block of each array a point works on. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

theorem out_eq : (dats m 0 c).arrAt 2 cfg0.N = fun i => ∑ k : Fin 1024, @HMul.hMul EReal EReal EReal _
    (m ((c : Thread nD τ).loc main_arg0) (ix2 (i 0) k))
    (m ((c : Thread nD τ).loc main_arg1) (ix3 (slot (i 1)) k (lane (i 1)))) := by
  refine (dats m 0 c).arrAt_eq_of_covers 2 _ (by decide +kernel) fun t _ y => ?_
  blk_simp
  rw [after0_2]
  idx_vars y
  have ht : t.val < 16 := lt_of_lt_of_eq t.isLt N_0
  have hi : ((View.whole main_v0).slice (win0_2.rect t)).emb (ix2 y0 y1) = ix2 ⟨t.val / 8 * 1024 + y0.val, by omega⟩ ⟨t.val % 8 * 768 + y1.val, by omega⟩ := by
    blk_ext [idx t]
  rw [hi, out_blk]
  show ∑ k : Fin 1024, @HMul.hMul EReal EReal EReal _ (iblk m c 0 t (ix2 y0 k)) (iblk m c 1 t (ix3 0 k y1))
    = ∑ k : Fin 1024, @HMul.hMul EReal EReal EReal _ (m ((c : Thread nD τ).loc main_arg0) (ix2 ⟨t.val / 8 * 1024 + y0.val, by omega⟩ k))
      (m ((c : Thread nD τ).loc main_arg1) (ix3 (slot ⟨t.val % 8 * 768 + y1.val, by omega⟩) k (lane ⟨t.val % 8 * 768 + y1.val, by omega⟩)))
  refine Finset.sum_congr rfl fun k _ => ?_
  have ha : iblk m c 0 t (ix2 y0 k) = m ((c : Thread nD τ).loc main_arg0) (ix2 ⟨t.val / 8 * 1024 + y0.val, by omega⟩ k) := by
    blk_ext [iblk, V, idx t]
  have hb : iblk m c 1 t (ix3 0 k y1) = m ((c : Thread nD τ).loc main_arg1)
      (ix3 (slot ⟨t.val % 8 * 768 + y1.val, by omega⟩) k (lane ⟨t.val % 8 * 768 + y1.val, by omega⟩)) := by
    have es : slot ⟨t.val % 8 * 768 + y1.val, by omega⟩ = ⟨t.val % 8, by omega⟩ := Fin.ext (by show (t.val % 8 * 768 + y1.val) / 768 = t.val % 8; omega)
    have el : lane ⟨t.val % 8 * 768 + y1.val, by omega⟩ = y1 := Fin.ext (by show (t.val % 8 * 768 + y1.val) % 768 = y1.val; omega)
    rw [es, el]
    blk_ext [iblk, V, idx t]
  rw [ha, hb]

end Cert.Kernel13Ideal.Mm

namespace Cert.Kernel14Ideal.Mm

open Cert.Kernel14Ideal Cert.Kernel14Ideal.Gen Cert.Kernel14Ideal.Value

variable (m : (ℓ : Loc nD τ sig) → Buf (Elt Ideal) ℓ) (c : Dev nD)

theorem pay (A : Vec Ideal S1024x3072 .bf16) (B : Vec Ideal S3072x512 .bf16) (r : Fin 1024) (l : Fin 512) :
    k0_pay1 (F := Ideal) A B (ix2 r l) = ∑ k : Fin 3072, @HMul.hMul EReal EReal EReal _ (A (ix2 r k)) (B (ix2 k l)) := by
  open_payloads
  pointwise

theorem out_blk (A : Vec Ideal S1024x3072 .bf16) (B : Vec Ideal S3072x512 .bf16) (r : Fin 1024) (l : Fin 512) :
    out0_2 (F := Ideal) A B (ix2 r l) = ∑ k : Fin 3072, @HMul.hMul EReal EReal EReal _ (A (ix2 r k)) (B (ix2 k l)) := by
  rw [← pay]
  unfold out0_2
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _]

/-- Which block of each array a point works on. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem out_eq : (dats m 0 c).arrAt 2 cfg0.N = fun i => ∑ k : Fin 3072, @HMul.hMul EReal EReal EReal _
    (m ((c : Thread nD τ).loc main_arg0) (ix2 (i 0) k)) (m ((c : Thread nD τ).loc main_arg1) (ix2 k (i 1))) := by
  refine (dats m 0 c).arrAt_eq_of_covers 2 _ (by decide +kernel) fun t _ y => ?_
  blk_simp
  rw [after0_2]
  idx_vars y
  have ht : t.val < 4 := lt_of_lt_of_eq t.isLt N_0
  have hi : ((View.whole main_v0).slice (win0_2.rect t)).emb (ix2 y0 y1) = ix2 ⟨t.val / 2 * 1024 + y0.val, by omega⟩ ⟨t.val % 2 * 512 + y1.val, by omega⟩ := by
    blk_ext [idx t]
  rw [hi, out_blk]
  show ∑ k : Fin 3072, @HMul.hMul EReal EReal EReal _ (iblk m c 0 t (ix2 y0 k)) (iblk m c 1 t (ix2 k y1))
    = ∑ k : Fin 3072, @HMul.hMul EReal EReal EReal _ (m ((c : Thread nD τ).loc main_arg0) (ix2 ⟨t.val / 2 * 1024 + y0.val, by omega⟩ k))
      (m ((c : Thread nD τ).loc main_arg1) (ix2 k ⟨t.val % 2 * 512 + y1.val, by omega⟩))
  refine Finset.sum_congr rfl fun k _ => ?_
  have ha : iblk m c 0 t (ix2 y0 k) = m ((c : Thread nD τ).loc main_arg0) (ix2 ⟨t.val / 2 * 1024 + y0.val, by omega⟩ k) := by
    blk_ext [iblk, V, idx t]
  have hb : iblk m c 1 t (ix2 k y1) = m ((c : Thread nD τ).loc main_arg1) (ix2 k ⟨t.val % 2 * 512 + y1.val, by omega⟩) := by
    blk_ext [iblk, V, idx t]
  rw [ha, hb]

end Cert.Kernel14Ideal.Mm

namespace Cert.Kernel15Ideal.Mm

open Cert.Kernel15Ideal Cert.Kernel15Ideal.Gen Cert.Kernel15Ideal.Value

variable (m : (ℓ : Loc nD τ sig) → Buf (Elt Ideal) ℓ) (c : Dev nD)

theorem pay (A : Vec Ideal S1024x1024 .f32) (B : Vec Ideal S1024x512 .bf16) (r : Fin 1024) (l : Fin 512) :
    k0_pay1 (F := Ideal) A B (ix2 r l) = ∑ k : Fin 1024, @HMul.hMul EReal EReal EReal _ (A (ix2 r k)) (B (ix2 k l)) := by
  open_payloads
  pointwise

theorem out_blk (A : Vec Ideal S1024x1024 .f32) (B : Vec Ideal S1024x512 .bf16) (r : Fin 1024) (l : Fin 512) :
    out0_2 (F := Ideal) A B (ix2 r l) = ∑ k : Fin 1024, @HMul.hMul EReal EReal EReal _ (A (ix2 r k)) (B (ix2 k l)) := by
  rw [← pay]
  unfold out0_2
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _]

/-- Which block of each array a point works on. -/
theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem out_eq : (dats m 0 c).arrAt 2 cfg0.N = fun i => ∑ k : Fin 1024, @HMul.hMul EReal EReal EReal _
    (m ((c : Thread nD τ).loc main_arg0) (ix2 (i 0) k)) (m ((c : Thread nD τ).loc main_arg1) (ix2 k (i 1))) := by
  refine (dats m 0 c).arrAt_eq_of_covers 2 _ (by decide +kernel) fun t _ y => ?_
  blk_simp
  rw [after0_2]
  idx_vars y
  have ht : t.val < 4 := lt_of_lt_of_eq t.isLt N_0
  have hi : ((View.whole main_v0).slice (win0_2.rect t)).emb (ix2 y0 y1) = ix2 ⟨t.val / 2 * 1024 + y0.val, by omega⟩ ⟨t.val % 2 * 512 + y1.val, by omega⟩ := by
    blk_ext [idx t]
  rw [hi, out_blk]
  show ∑ k : Fin 1024, @HMul.hMul EReal EReal EReal _ (iblk m c 0 t (ix2 y0 k)) (iblk m c 1 t (ix2 k y1))
    = ∑ k : Fin 1024, @HMul.hMul EReal EReal EReal _ (m ((c : Thread nD τ).loc main_arg0) (ix2 ⟨t.val / 2 * 1024 + y0.val, by omega⟩ k))
      (m ((c : Thread nD τ).loc main_arg1) (ix2 k ⟨t.val % 2 * 512 + y1.val, by omega⟩))
  refine Finset.sum_congr rfl fun k _ => ?_
  have ha : iblk m c 0 t (ix2 y0 k) = m ((c : Thread nD τ).loc main_arg0) (ix2 ⟨t.val / 2 * 1024 + y0.val, by omega⟩ k) := by
    blk_ext [iblk, V, idx t]
  have hb : iblk m c 1 t (ix2 k y1) = m ((c : Thread nD τ).loc main_arg1) (ix2 k ⟨t.val % 2 * 512 + y1.val, by omega⟩) := by
    blk_ext [iblk, V, idx t]
  rw [ha, hb]

end Cert.Kernel15Ideal.Mm

end
-- ==== Proof.MmFwdRef.lean ====
/- The references of the products of the forward pass and of the cross-attention's square gradients: each result as a sum
   of products. -/
module

public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import Idealize.ShloMosaic.Lib.Pointwise

@[expose] public section

set_option maxRecDepth 16384

noncomputable section

open Idealize.ShloMosaic Idealize.ShloMosaic.TcCoe

namespace Cert.Reference12Ideal.Mm

open Cert.Reference12Ideal Cert.Reference12Ideal.Gen Cert.Reference12Ideal.Read

theorem closed (x0 : (⟨S2048x1024, .f32⟩ : BufTy).Contents (Elt Ideal)) (x1 : (⟨S1024x7168, .bf16⟩ : BufTy).Contents (Elt Ideal))
    (x2 : (⟨S1x7168, .f32⟩ : BufTy).Contents (Elt Ideal)) (i : S2048x7168.Idx) : val_main_v3 (F := Ideal) x0 x1 x2 i
      = @HAdd.hAdd EReal EReal EReal _ (∑ k : Fin 1024, @HMul.hMul EReal EReal EReal _ (x0 (ix2 (i 0) k)) (x1 (ix2 k (i 1)))) (x2 (ix2 0 (i 1))) := by
  idx_vars i
  pointwise [val_main_v3, val_main_v2, val_main_v1, val_main_v0]

end Cert.Reference12Ideal.Mm

namespace Cert.Reference13Ideal.Mm

open Cert.Reference13Ideal Cert.Reference13Ideal.Gen Cert.Reference13Ideal.Read

theorem closed (x0 : (⟨S2048x1024, .f32⟩ : BufTy).Contents (Elt Ideal)) (x1 : (⟨S8x1024x768, .bf16⟩ : BufTy).Contents (Elt Ideal))
    (i : S2048x6144.Idx) : val_main_v3 (F := Ideal) x0 x1 i
      = ∑ k : Fin 1024, @HMul.hMul EReal EReal EReal _ (x0 (ix2 (i 0) k))
        (x1 (ix3 ⟨(i 1).val / 768, by have h : (i 1).val < 6144 := (i 1).isLt; omega⟩ k ⟨(i 1).val % 768, by omega⟩)) := by
  idx_vars i
  rw [val_main_v3_apply]
  refine Finset.sum_congr rfl fun k _ => ?_
  have hk := k.isLt
  rw [val_main_v2_apply, val_main_v1_apply, val_main_v0_apply]
  have e : idx_main_v1 (idx_main_v2 (ridx_main_v3 (ix2 i0 i1) k)) = ix3 ⟨i1.val / 768, by omega⟩ k ⟨i1.val % 768, by omega⟩ := by
    funext a
    apply Fin.ext
    match a with
    | ⟨0, _⟩ => show (k.val * 6144 + i1.val) / 768 % 8 = i1.val / 768; omega
    | ⟨1, _⟩ => show (k.val * 6144 + i1.val) / 6144 = k.val; omega
    | ⟨2, _⟩ => show (k.val * 6144 + i1.val) % 768 = i1.val % 768; omega
  rw [e]
  have e' : lidx_main_v3 (ix2 i0 i1) k = ix2 i0 k := by
    funext a
    match a with
    | ⟨0, _⟩ => rfl
    | ⟨1, _⟩ => rfl
  rw [e']
  rfl

end Cert.Reference13Ideal.Mm

namespace Cert.Reference14Ideal.Mm

open Cert.Reference14Ideal Cert.Reference14Ideal.Gen Cert.Reference14Ideal.Read

theorem closed (x0 : (⟨S2048x3072, .bf16⟩ : BufTy).Contents (Elt Ideal)) (x1 : (⟨S3072x1024, .bf16⟩ : BufTy).Contents (Elt Ideal))
    (i : S2048x1024.Idx) : val_main_v2 (F := Ideal) x0 x1 i
      = ∑ k : Fin 3072, @HMul.hMul EReal EReal EReal _ (x0 (ix2 (i 0) k)) (x1 (ix2 k (i 1))) := by
  idx_vars i
  pointwise [val_main_v2, val_main_v1, val_main_v0]

end Cert.Reference14Ideal.Mm

namespace Cert.Reference15Ideal.Mm

open Cert.Reference15Ideal Cert.Reference15Ideal.Gen Cert.Reference15Ideal.Read

theorem closed (x0 : (⟨S2048x1024, .f32⟩ : BufTy).Contents (Elt Ideal)) (x1 : (⟨S1024x1024, .bf16⟩ : BufTy).Contents (Elt Ideal))
    (i : S2048x1024.Idx) : val_main_v1 (F := Ideal) x0 x1 i
      = ∑ k : Fin 1024, @HMul.hMul EReal EReal EReal _ (x0 (ix2 (i 0) k)) (x1 (ix2 k (i 1))) := by
  idx_vars i
  pointwise [val_main_v1, val_main_v0]

end Cert.Reference15Ideal.Mm

namespace Cert.Reference16Ideal.Mm

open Cert.Reference16Ideal Cert.Reference16Ideal.Gen Cert.Reference16Ideal.Read

theorem closed (x0 : (⟨S2048x1024, .f32⟩ : BufTy).Contents (Elt Ideal)) (x1 : (⟨S1024x1024, .bf16⟩ : BufTy).Contents (Elt Ideal))
    (i : S2048x1024.Idx) : val_main_v3 (F := Ideal) x0 x1 i
      = ∑ k : Fin 1024, @HMul.hMul EReal EReal EReal _ (x0 (ix2 (i 0) k)) (x1 (ix2 (i 1) k)) := by
  idx_vars i
  pointwise [val_main_v3, val_main_v1]

end Cert.Reference16Ideal.Mm

namespace Cert.Reference17Ideal.Mm

open Cert.Reference17Ideal Cert.Reference17Ideal.Gen Cert.Reference17Ideal.Read

theorem closed (x0 : (⟨S2048x1024, .f32⟩ : BufTy).Contents (Elt Ideal)) (x1 : (⟨S1024x1024, .bf16⟩ : BufTy).Contents (Elt Ideal))
    (x2 : (⟨S2048x1024, .f32⟩ : BufTy).Contents (Elt Ideal)) (i : S2048x1024.Idx) : val_main_v8 (F := Ideal) x0 x1 x2 i
      = @HAdd.hAdd EReal EReal EReal _ (∑ k : Fin 1024, @HMul.hMul EReal EReal EReal _ (x0 (ix2 (i 0) k)) (x1 (ix2 (i 1) k)))
        (Ideal.ofBits .f32 0x3FD744FD#32 * x2 i) := by
  idx_vars i
  pointwise [val_main_v8, val_main_v7, val_main_v6, val_main_v5, val_main_cst_1, val_main_v1]
  exact add_comm _ _

end Cert.Reference17Ideal.Mm

namespace Cert.Reference18Ideal.Mm

open Cert.Reference18Ideal Cert.Reference18Ideal.Gen Cert.Reference18Ideal.Read

theorem closed (x0 x1 : (⟨S2048x1024, .f32⟩ : BufTy).Contents (Elt Ideal)) (i : S1024x1024.Idx) : val_main_v3 (F := Ideal) x0 x1 i
      = ∑ k : Fin 2048, @HMul.hMul EReal EReal EReal _ (x0 (ix2 k (i 0))) (x1 (ix2 k (i 1))) := by
  idx_vars i
  pointwise [val_main_v3, val_main_v2]
  exact Finset.sum_congr rfl fun _ _ => mul_comm _ _

end Cert.Reference18Ideal.Mm

end
-- ==== Proof.MmSqDx.lean ====
/- The gradients of the rows in the two square products of the cross-attention: what each call's output array holds. -/
module

public import proofs.«01_k».proof.Proof.Gen.Kernel16Ideal.Value
public import proofs.«01_k».proof.Proof.Gen.Kernel16Ideal.Frame
public import proofs.«01_k».proof.Proof.Gen.Kernel17Ideal.Value
public import proofs.«01_k».proof.Proof.Gen.Kernel17Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Mm

open Cert.Kernel16Ideal Cert.Kernel16Ideal.Gen Cert.Kernel16Ideal.Value

variable (m : (ℓ : Loc nD τ sig) → Buf (Elt Ideal) ℓ) (c : Dev nD)

theorem pay (A : Vec Ideal S1024x1024 .f32) (B : Vec Ideal S512x1024 .bf16) (r : Fin 1024) (l : Fin 512) :
    k0_pay1 (F := Ideal) A B (ix2 r l) = ∑ k : Fin 1024, @HMul.hMul EReal EReal EReal _ (A (ix2 r k)) (B (ix2 l k)) := by
  open_payloads
  pointwise

theorem out_blk (A : Vec Ideal S1024x1024 .f32) (B : Vec Ideal S512x1024 .bf16) (r : Fin 1024) (l : Fin 512) :
    out0_2 (F := Ideal) A B (ix2 r l) = ∑ k : Fin 1024, @HMul.hMul EReal EReal EReal _ (A (ix2 r k)) (B (ix2 l k)) := by
  rw [← pay]
  unfold out0_2
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _]

/-- Which block of each array a point works on. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

theorem out_eq : (dats m 0 c).arrAt 2 cfg0.N = fun i => ∑ k : Fin 1024, @HMul.hMul EReal EReal EReal _
    (m ((c : Thread nD τ).loc main_arg0) (ix2 (i 0) k)) (m ((c : Thread nD τ).loc main_arg1) (ix2 (i 1) k)) := by
  refine (dats m 0 c).arrAt_eq_of_covers 2 _ (by decide +kernel) fun t _ y => ?_
  blk_simp
  rw [after0_2]
  idx_vars y
  have ht : t.val < 4 := lt_of_lt_of_eq t.isLt N_0
  have hi : ((View.whole main_v0).slice (win0_2.rect t)).emb (ix2 y0 y1) = ix2 ⟨t.val / 2 * 1024 + y0.val, by omega⟩ ⟨t.val % 2 * 512 + y1.val, by omega⟩ := by
    blk_ext [idx t]
  rw [hi, out_blk]
  show ∑ k : Fin 1024, @HMul.hMul EReal EReal EReal _ (iblk m c 0 t (ix2 y0 k)) (iblk m c 1 t (ix2 y1 k))
    = ∑ k : Fin 1024, @HMul.hMul EReal EReal EReal _ (m ((c : Thread nD τ).loc main_arg0) (ix2 ⟨t.val / 2 * 1024 + y0.val, by omega⟩ k))
      (m ((c : Thread nD τ).loc main_arg1) (ix2 ⟨t.val % 2 * 512 + y1.val, by omega⟩ k))
  refine Finset.sum_congr rfl fun k _ => ?_
  have ha : iblk m c 0 t (ix2 y0 k) = m ((c : Thread nD τ).loc main_arg0) (ix2 ⟨t.val / 2 * 1024 + y0.val, by omega⟩ k) := by
    blk_ext [iblk, V, idx t]
  have hb : iblk m c 1 t (ix2 y1 k) = m ((c : Thread nD τ).loc main_arg1) (ix2 ⟨t.val % 2 * 512 + y1.val, by omega⟩ k) := by
    blk_ext [iblk, V, idx t]
  rw [ha, hb]

end Cert.Kernel16Ideal.Mm

namespace Cert.Kernel17Ideal.Mm

open Cert.Kernel17Ideal Cert.Kernel17Ideal.Gen Cert.Kernel17Ideal.Value

/-- The factor of the residual. -/
abbrev alpha : EReal := Ideal.ofBits .f32 0x3FD744FD#32

variable (m : (ℓ : Loc nD τ sig) → Buf (Elt Ideal) ℓ) (c : Dev nD)

theorem pay (A : Vec Ideal S1024x1024 .f32) (B : Vec Ideal S512x1024 .bf16) (C : Vec Ideal S1024x512 .f32) (r : Fin 1024) (l : Fin 512) :
    k0_pay1 (F := Ideal) A B C (ix2 r l) = @HAdd.hAdd EReal EReal EReal _
      (∑ k : Fin 1024, @HMul.hMul EReal EReal EReal _ (A (ix2 r k)) (B (ix2 l k))) (alpha * C (ix2 r l)) := by
  open_payloads
  pointwise

theorem out_blk (A : Vec Ideal S1024x1024 .f32) (B : Vec Ideal S512x1024 .bf16) (C : Vec Ideal S1024x512 .f32) (r : Fin 1024) (l : Fin 512) :
    out0_3 (F := Ideal) A B C (ix2 r l) = @HAdd.hAdd EReal EReal EReal _
      (∑ k : Fin 1024, @HMul.hMul EReal EReal EReal _ (A (ix2 r k)) (B (ix2 l k))) (alpha * C (ix2 r l)) := by
  rw [← pay]
  unfold out0_3
  generalize hy : (ix2 r l : S1024x512.Idx) = y
  canon_tiles x h
  rw [show x = y from by funext a; apply Fin.ext; fin_cases a; exacts [h0.symm, h1.symm],
    show View.ld A r0_0 = A from View.ld_unit_zero (by funext a; fin_cases a <;> rfl) _ _,
    show View.ld B r0_1 = B from View.ld_unit_zero (by funext a; fin_cases a <;> rfl) _ _,
    show View.ld C r0_2 = C from View.ld_unit_zero (by funext a; fin_cases a <;> rfl) _ _]

/-- Which block of each array a point works on. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

theorem out_eq : (dats m 0 c).arrAt 3 cfg0.N = fun i => @HAdd.hAdd EReal EReal EReal _ (∑ k : Fin 1024, @HMul.hMul EReal EReal EReal _
    (m ((c : Thread nD τ).loc main_arg0) (ix2 (i 0) k)) (m ((c : Thread nD τ).loc main_arg1) (ix2 (i 1) k)))
    (alpha * m ((c : Thread nD τ).loc main_arg2) i) := by
  refine (dats m 0 c).arrAt_eq_of_covers 3 _ (by decide +kernel) fun t _ y => ?_
  blk_simp
  rw [after0_3]
  idx_vars y
  have ht : t.val < 4 := lt_of_lt_of_eq t.isLt N_0
  have hi : ((View.whole main_v0).slice (win0_3.rect t)).emb (ix2 y0 y1) = ix2 ⟨t.val / 2 * 1024 + y0.val, by omega⟩ ⟨t.val % 2 * 512 + y1.val, by omega⟩ := by
    blk_ext [idx t]
  rw [hi, out_blk]
  have hc : iblk m c 2 t (ix2 y0 y1) = m ((c : Thread nD τ).loc main_arg2) (ix2 ⟨t.val / 2 * 1024 + y0.val, by omega⟩ ⟨t.val % 2 * 512 + y1.val, by omega⟩) := by
    blk_ext [iblk, V, idx t]
  rw [hc]
  show @HAdd.hAdd EReal EReal EReal _ (∑ k : Fin 1024, @HMul.hMul EReal EReal EReal _ (iblk m c 0 t (ix2 y0 k)) (iblk m c 1 t (ix2 y1 k))) _
    = @HAdd.hAdd EReal EReal EReal _ (∑ k : Fin 1024, @HMul.hMul EReal EReal EReal _ (m ((c : Thread nD τ).loc main_arg0) (ix2 ⟨t.val / 2 * 1024 + y0.val, by omega⟩ k))
      (m ((c : Thread nD τ).loc main_arg1) (ix2 ⟨t.val % 2 * 512 + y1.val, by omega⟩ k))) _
  refine congrArg (fun s : EReal => s + _) (Finset.sum_congr rfl fun k _ => ?_)
  have ha : iblk m c 0 t (ix2 y0 k) = m ((c : Thread nD τ).loc main_arg0) (ix2 ⟨t.val / 2 * 1024 + y0.val, by omega⟩ k) := by
    blk_ext [iblk, V, idx t]
  have hb : iblk m c 1 t (ix2 y1 k) = m ((c : Thread nD τ).loc main_arg1) (ix2 ⟨t.val % 2 * 512 + y1.val, by omega⟩ k) := by
    blk_ext [iblk, V, idx t]
  rw [ha, hb]

end Cert.Kernel17Ideal.Mm

end
-- ==== Proof.MmXoDw.lean ====
/- The gradient of the weight in the product out of the cross-attention: what the call's output array holds. -/
module

public import proofs.«01_k».proof.Proof.Gen.Kernel18Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel18Ideal.Mm

open Cert.Kernel18Ideal Cert.Kernel18Ideal.Gen Cert.Kernel18Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem pay (A : Vec Ideal S1024x2048 .bf16) (B : Vec Ideal S2048x512 .f32) (y : S1024x512.Idx) :
    k0_pay4 (F := Ideal) A B y = ∑ k : Fin 2048, @HMul.hMul EReal EReal EReal _ (A (ix2 (y 0) k)) (B (ix2 k (y 1))) := by
  idx_vars y
  open_payloads
  pointwise

theorem sc_A (t : Fin cfg0.N) (h0 : t.val % 2 = 0) (r : Fin 1024) (l : Fin 2048) :
    (outsAt0 m c t.val t.isLt).2 (ix2 r l) = iblk m c 0 t (ix2 l r) := by
  rw [outsAt0_A m c t h0]
  frame_out
  generalize iblk m c 0 t = A
  generalize hy : (ix2 r l : S1024x2048.Idx) = y
  have e0 : (y 0).val = r.val := by rw [← hy]; rfl
  have e1 : (y 1).val = l.val := by rw [← hy]; rfl
  canon_tiles x h
  all_goals
    obtain rfl : r = x 0 := Fin.ext (by omega)
    idx_vars x
    open_payloads
    pointwise
    refine congrArg A (congrArg (fun q => ix2 q _) (Fin.ext ?_))
    exact h1.symm.trans e1

theorem sc_B (t : Fin cfg0.N) (h0 : ¬ t.val % 2 = 0) :
    (outsAt0 m c t.val t.isLt).2 = (outsAt0 m c (t.val - 1) (Nat.lt_of_le_of_lt (Nat.sub_le _ _) t.isLt)).2 := by
  rw [outsAt0_B m c t h0]
  rfl

theorem out_eq_pay (t : Fin cfg0.N) : (outsAt0 m c t.val t.isLt).1 = k0_pay4 (F := Ideal) (outsAt0 m c t.val t.isLt).2 (iblk m c 1 t) := by
  by_cases h0 : t.val % 2 = 0
  · rw [outsAt0_A m c t h0]
    frame_out
    refine congrArg (fun s => k0_pay4 s _) ?_
    rw [View.readCov_eq_canon']
    exact View.ld_unit_zero (by funext a; fin_cases a <;> rfl) _ _
  · rw [sc_B m c t h0, outsAt0_B m c t h0]
    frame_out
    rw [(Memref.isWhole_whole cc0_scratch0).read_unread]

/-- Which block of each array a point works on. -/
theorem idx : ∀ t : Fin cfg0.N, win0_0.index t = ![0, t.val / 2] ∧ win0_1.index t = ![0, t.val % 2] :=
  (by decide +kernel : ∀ t : Fin grid0.N, _)

/-- Between resets the transposed block is the one the points of the run work on. -/
theorem sc_eq : ∀ (n : ℕ) (hn : n < cfg0.N) (r : Fin 1024) (l : Fin 2048) (q : Fin 1024), q.val = n / 2 * 1024 + r.val →
    (outsAt0 m c n hn).2 (ix2 r l) = m ((c : Thread nD τ).loc main_arg0) (ix2 l q)
  | n, hn, r, l, q, hq => by
    by_cases h0 : n % 2 = 0
    · refine (sc_A m c ⟨n, hn⟩ h0 r l).trans ?_
      blk_ext [iblk, V, idx ⟨n, hn⟩]
    · have hlt : n - 1 < n := by omega
      exact (congrFun (sc_B m c ⟨n, hn⟩ h0) _).trans (sc_eq (n - 1) (by omega) r l q (by omega))
  termination_by n => n

theorem out_eq (i : S1024x1024.Idx) : G2 m c i
    = ∑ k : Fin 2048, @HMul.hMul EReal EReal EReal _ (m ((c : Thread nD τ).loc main_arg0) (ix2 k (i 0))) (m ((c : Thread nD τ).loc main_arg1) (ix2 k (i 1))) := by
  have hi0 : (i 0).val < 1024 := (i 0).isLt
  have hi1 : (i 1).val < 1024 := (i 1).isLt
  have hN : cfg0.N = 2 := N_0
  have hpt : pt2Of i = 2 * ((i 0).val / 1024 - 0) + 1 * ((i 1).val / 512 - 0) := rfl
  have hp : pt2Of i < cfg0.N := by rw [hN]; omega
  rw [G2, dif_pos hp, ← outsAt0_sweep m c _ hp]
  refine (congrFun (out_eq_pay m c ⟨pt2Of i, hp⟩) (loc2Of i)).trans ?_
  rw [pay]
  refine Finset.sum_congr rfl fun k _ => ?_
  have e1 : (⟨pt2Of i, hp⟩ : Fin cfg0.N).val % 2 = (i 1).val / 512 := by show pt2Of i % 2 = _; omega
  have ha := sc_eq m c (pt2Of i) hp (loc2Of i 0) k (i 0) (by show _ = _ + (i 0).val % 1024; omega)
  have hb : iblk m c 1 ⟨pt2Of i, hp⟩ (ix2 k (loc2Of i 1)) = m ((c : Thread nD τ).loc main_arg1) (ix2 k (i 1)) := by
    blk_ext [iblk, V, idx ⟨pt2Of i, hp⟩, e1]
  rw [ha, hb]

end Cert.Kernel18Ideal.Mm

end
-- ==== Proof.FwdValues.lean ====
/- Programs 12 to 18: the products of the forward pass and those of the cross-attention, each kernel against its reference. -/
module

public import proofs.«01_k».proof.Defs
public import proofs.«01_k».proof.Proof.Gen.Reference12Ideal.Read
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference16Ideal.Read
public import proofs.«01_k».proof.Proof.Gen.Reference17Ideal.Read
public import proofs.«01_k».proof.Proof.Gen.Reference18Ideal.Read
public import proofs.«01_k».proof.Proof.MmFwd
public import proofs.«01_k».proof.Proof.MmFwdRef
public import proofs.«01_k».proof.Proof.MmSqDx
public import proofs.«01_k».proof.Proof.MmXoDw
public import Idealize.ShloMosaic.Adequacy
public import Idealize.ShloMosaic.Init

@[expose] public section

noncomputable section

namespace Cert.Proof

open Idealize.ShloMosaic Idealize.ShloMosaic.TcCoe Idealize.SL.Sem

/-- The reference of program 12 leaves its arguments as they were, and has no semaphore. -/
theorem ref_frame12 [Cert.Reference12Ideal.Facts] : Cert.quiescent_Reference12Ideal :=
  fun m g _ => (θ_run _ _ _).mono (fun r h => ⟨fun c => (h c).2, sem_eq_zero_of_no_sems (by decide) r.2⟩) (Cert.Reference12Ideal.Value.run m g)

/-- Program 12, the product into the sublayers, and its reference compute the same array. -/
theorem value12 [Cert.Kernel12Ideal.Facts] [Cert.Reference12Ideal.Facts] : Cert.algebraic_Kernel12Ideal_Reference12Ideal := by
  intro m g m' g' _ hagree
  refine ⟨_, Cert.Kernel12Ideal.Value.run_blocks m g, ?_⟩
  refine (θ_run _ _ _).mono (fun r h c => ⟨(h c).1.trans ?_, (h c).2⟩) (Cert.Reference12Ideal.Value.run m' g')
  obtain ⟨a0, a1, a2⟩ := hagree c
  rw [a0, a1, a2]
  refine (Cert.Reference12Ideal.Read.val_main_v3_eq _ _ _).trans (funext fun i => ?_)
  exact (Cert.Reference12Ideal.Mm.closed _ _ _ i).trans (congrFun (Cert.Kernel12Ideal.Mm.out_eq m c) i).symm

/-- The reference of program 13 leaves its arguments as they were, and has no semaphore. -/
theorem ref_frame13 [Cert.Reference13Ideal.Facts] : Cert.quiescent_Reference13Ideal :=
  fun m g _ => (θ_run _ _ _).mono (fun r h => ⟨fun c => (h c).2, sem_eq_zero_of_no_sems (by decide) r.2⟩) (Cert.Reference13Ideal.Value.run m g)

/-- Program 13, the product up to the feed-forward part, and its reference compute the same array. -/
theorem value13 [Cert.Kernel13Ideal.Facts] [Cert.Reference13Ideal.Facts] : Cert.algebraic_Kernel13Ideal_Reference13Ideal := by
  intro m g m' g' _ hagree
  refine ⟨_, Cert.Kernel13Ideal.Value.run_blocks m g, ?_⟩
  refine (θ_run _ _ _).mono (fun r h c => ⟨(h c).1.trans ?_, (h c).2⟩) (Cert.Reference13Ideal.Value.run m' g')
  obtain ⟨a0, a1⟩ := hagree c
  rw [a0, a1]
  refine (Cert.Reference13Ideal.Read.val_main_v3_eq _ _).trans (funext fun i => ?_)
  exact (Cert.Reference13Ideal.Mm.closed _ _ i).trans (congrFun (Cert.Kernel13Ideal.Mm.out_eq m c) i).symm

/-- The reference of program 14 leaves its arguments as they were, and has no semaphore. -/
theorem ref_frame14 [Cert.Reference14Ideal.Facts] : Cert.quiescent_Reference14Ideal :=
  fun m g _ => (θ_run _ _ _).mono (fun r h => ⟨fun c => (h c).2, sem_eq_zero_of_no_sems (by decide) r.2⟩) (Cert.Reference14Ideal.Value.run m g)

/-- Program 14, the product down from the feed-forward part, and its reference compute the same array. -/
theorem value14 [Cert.Kernel14Ideal.Facts] [Cert.Reference14Ideal.Facts] : Cert.algebraic_Kernel14Ideal_Reference14Ideal := by
  intro m g m' g' _ hagree
  refine ⟨_, Cert.Kernel14Ideal.Value.run_blocks m g, ?_⟩
  refine (θ_run _ _ _).mono (fun r h c => ⟨(h c).1.trans ?_, (h c).2⟩) (Cert.Reference14Ideal.Value.run m' g')
  obtain ⟨a0, a1⟩ := hagree c
  rw [a0, a1]
  refine (Cert.Reference14Ideal.Read.val_main_v2_eq _ _).trans (funext fun i => ?_)
  exact (Cert.Reference14Ideal.Mm.closed _ _ i).trans (congrFun (Cert.Kernel14Ideal.Mm.out_eq m c) i).symm

/-- The reference of program 15 leaves its arguments as they were, and has no semaphore. -/
theorem ref_frame15 [Cert.Reference15Ideal.Facts] : Cert.quiescent_Reference15Ideal :=
  fun m g _ => (θ_run _ _ _).mono (fun r h => ⟨fun c => (h c).2, sem_eq_zero_of_no_sems (by decide) r.2⟩) (Cert.Reference15Ideal.Value.run m g)

/-- Program 15, the product out of the cross-attention, and its reference compute the same array. -/
theorem value15 [Cert.Kernel15Ideal.Facts] [Cert.Reference15Ideal.Facts] : Cert.algebraic_Kernel15Ideal_Reference15Ideal := by
  intro m g m' g' _ hagree
  refine ⟨_, Cert.Kernel15Ideal.Value.run_blocks m g, ?_⟩
  refine (θ_run _ _ _).mono (fun r h c => ⟨(h c).1.trans ?_, (h c).2⟩) (Cert.Reference15Ideal.Value.run m' g')
  obtain ⟨a0, a1⟩ := hagree c
  rw [a0, a1]
  refine (Cert.Reference15Ideal.Read.val_main_v1_eq _ _).trans (funext fun i => ?_)
  exact (Cert.Reference15Ideal.Mm.closed _ _ i).trans (congrFun (Cert.Kernel15Ideal.Mm.out_eq m c) i).symm

/-- The reference of program 16 leaves its arguments as they were, and has no semaphore. -/
theorem ref_frame16 [Cert.Reference16Ideal.Facts] : Cert.quiescent_Reference16Ideal :=
  fun m g _ => (θ_run _ _ _).mono (fun r h => ⟨fun c => (h c).2, sem_eq_zero_of_no_sems (by decide) r.2⟩) (Cert.Reference16Ideal.Value.run m g)

/-- Program 16, the gradient of the rows in the product out of the cross-attention, and its reference compute the same array. -/
theorem value16 [Cert.Kernel16Ideal.Facts] [Cert.Reference16Ideal.Facts] : Cert.algebraic_Kernel16Ideal_Reference16Ideal := by
  intro m g m' g' _ hagree
  refine ⟨_, Cert.Kernel16Ideal.Value.run_blocks m g, ?_⟩
  refine (θ_run _ _ _).mono (fun r h c => ⟨(h c).1.trans ?_, (h c).2⟩) (Cert.Reference16Ideal.Value.run m' g')
  obtain ⟨a0, a1⟩ := hagree c
  rw [a0, a1]
  refine (Cert.Reference16Ideal.Read.val_main_v3_eq _ _).trans (funext fun i => ?_)
  exact (Cert.Reference16Ideal.Mm.closed _ _ i).trans (congrFun (Cert.Kernel16Ideal.Mm.out_eq m c) i).symm

/-- The reference of program 17 leaves its arguments as they were, and has no semaphore. -/
theorem ref_frame17 [Cert.Reference17Ideal.Facts] : Cert.quiescent_Reference17Ideal :=
  fun m g _ => (θ_run _ _ _).mono (fun r h => ⟨fun c => (h c).2, sem_eq_zero_of_no_sems (by decide) r.2⟩) (Cert.Reference17Ideal.Value.run m g)

/-- Program 17, the gradient of the rows in the cross-attention's queries, with the residual's share, and its reference compute the same array. -/
theorem value17 [Cert.Kernel17Ideal.Facts] [Cert.Reference17Ideal.Facts] : Cert.algebraic_Kernel17Ideal_Reference17Ideal := by
  intro m g m' g' _ hagree
  refine ⟨_, Cert.Kernel17Ideal.Value.run_blocks m g, ?_⟩
  refine (θ_run _ _ _).mono (fun r h c => ⟨(h c).1.trans ?_, (h c).2⟩) (Cert.Reference17Ideal.Value.run m' g')
  obtain ⟨a0, a1, a2⟩ := hagree c
  rw [a0, a1, a2]
  refine (Cert.Reference17Ideal.Read.val_main_v8_eq _ _ _).trans (funext fun i => ?_)
  exact (Cert.Reference17Ideal.Mm.closed _ _ _ i).trans (congrFun (Cert.Kernel17Ideal.Mm.out_eq m c) i).symm

/-- The reference of program 18 leaves its arguments as they were, and has no semaphore. -/
theorem ref_frame18 [Cert.Reference18Ideal.Facts] : Cert.quiescent_Reference18Ideal :=
  fun m g _ => (θ_run _ _ _).mono (fun r h => ⟨fun c => (h c).2, sem_eq_zero_of_no_sems (by decide) r.2⟩) (Cert.Reference18Ideal.Value.run m g)

/-- Program 18, the gradient of the weights in the product out of the cross-attention, and its reference compute the same array. -/
theorem value18 [Cert.Kernel18Ideal.Facts] [Cert.Reference18Ideal.Facts] : Cert.algebraic_Kernel18Ideal_Reference18Ideal := by
  intro m g m' g' _ hagree
  refine ⟨_, Cert.Kernel18Ideal.Value.run m g, ?_⟩
  refine (θ_run _ _ _).mono (fun r h c => ⟨(h c).1.trans ?_, (h c).2⟩) (Cert.Reference18Ideal.Value.run m' g')
  obtain ⟨a0, a1⟩ := hagree c
  rw [a0, a1]
  refine (Cert.Reference18Ideal.Read.val_main_v3_eq _ _).trans (funext fun i => ?_)
  exact (Cert.Reference18Ideal.Mm.closed _ _ i).trans (Cert.Kernel18Ideal.Mm.out_eq m c i).symm

end Cert.Proof

end
-- ==== Proof.MergeSpec.lean ====
/- The gradient of the three gates and of the merge, number by number. The merge adds three branches, each scaled by the
   logistic of its gate; the second branch is itself the first half of a row scaled by the logistic of its second half. -/
module

public import Idealize.ShloMosaic.PureOps.Ideal

@[expose] public section

noncomputable section

namespace Cert.Merge

open Idealize.ShloMosaic

/-- The gradient of a gate `g` that scales a branch `y`, for the cotangent `ct`. -/
def dGate (g y ct : EReal) : EReal := ct * y * (Ideal.logistic g * (1 - Ideal.logistic g))

/-- The gradient of the branch scaled by the gate `g`. -/
def dBranch (g ct : EReal) : EReal := Ideal.logistic g * ct

/-- The second branch: a value scaled by the logistic of its own gate. -/
def gated (y yg : EReal) : EReal := y * Ideal.logistic yg

/-- The gradient of the row the second branch is made of: of its values first, then of their gates. -/
def dPair (g : Fin 1024 → EReal) (y2 : Fin 2048 → EReal) (ct : Fin 1024 → EReal) (k : Fin 2048) : EReal :=
  if h : k.val < 1024 then dBranch (g ⟨k.val, h⟩) (ct ⟨k.val, h⟩) * Ideal.logistic (y2 ⟨1024 + k.val, by omega⟩)
  else dGate (y2 k) (dBranch (g ⟨k.val - 1024, by omega⟩) (ct ⟨k.val - 1024, by omega⟩)) (y2 ⟨k.val - 1024, by omega⟩)

/-- The gradient of a gate that lies in the wide rows `z` from column `off` on. -/
def rowGate (off : Fin 6145) (z : Fin 2048 → Fin 7168 → EReal) (y ct : Fin 2048 → Fin 1024 → EReal) (r : Fin 2048) (l : Fin 1024) : EReal :=
  dGate (z r ⟨off.val + l.val, by omega⟩) (y r l) (ct r l)

/-- The second branch, from the rows it is made of. -/
def rowGated (y2 : Fin 2048 → Fin 2048 → EReal) (r : Fin 2048) (l : Fin 1024) : EReal :=
  gated (y2 r ⟨l.val, by omega⟩) (y2 r ⟨1024 + l.val, by omega⟩)

/-- The gradient of the branch whose gate lies in `z` from column `off` on. -/
def rowBranch (off : Fin 6145) (z : Fin 2048 → Fin 7168 → EReal) (ct : Fin 2048 → Fin 1024 → EReal) (r : Fin 2048) (l : Fin 1024) : EReal :=
  dBranch (z r ⟨off.val + l.val, by omega⟩) (ct r l)

/-- The gradient of the rows the second branch is made of. -/
def rowPair (z : Fin 2048 → Fin 7168 → EReal) (y2 : Fin 2048 → Fin 2048 → EReal) (ct : Fin 2048 → Fin 1024 → EReal) (r k : Fin 2048) : EReal :=
  dPair (fun q => z r ⟨5120 + q.val, by omega⟩) (y2 r) (ct r) k

end Cert.Merge

end
-- ==== Proof.Merge.lean ====
/- The gradient of the three gates and of the merge: what the call's six output arrays hold. -/
module

public import proofs.«01_k».proof.Proof.Gen.Kernel9Ideal.Value
public import proofs.«01_k».proof.Proof.Gen.Kernel9Ideal.Frame
public import proofs.«01_k».proof.Proof.MergeSpec
public import Idealize.ShloMosaic.Lib.Pipeline.ValueKit
public import Idealize.ShloMosaic.Lib.Pointwise

@[expose] public section

set_option maxRecDepth 16384

noncomputable section

namespace Cert.Kernel9Ideal.Merge

open Cert.Merge
open Cert.Kernel9Ideal Cert.Kernel9Ideal.Gen Cert.Kernel9Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves, from its blocks -/

section Blocks

variable (g0 g1 g2 ya yc ct : Vec Ideal S256x1024 .f32) (y2 : Vec Ideal S256x2048 .f32) (r : Fin 256) (l : Fin 1024)

theorem ld_a (x : Vec Ideal S256x1024 .f32) : View.ld x r0_0 = x := View.ld_unit_zero (by funext a; fin_cases a <;> rfl) _ _
theorem ld_b (x : Vec Ideal S256x2048 .f32) : View.ld x r0_1 = x := View.ld_unit_zero (by funext a; fin_cases a <;> rfl) _ _

theorem canon_a (p : Vec Ideal S256x1024 .f32) : View.canon (Val := Elt Ideal) (e := .f32) [⟨r0_0, p⟩] = p :=
  View.canon_unit_zero (by funext a; fin_cases a <;> rfl) _ _
theorem canon_b (p : Vec Ideal S256x2048 .f32) : View.canon (Val := Elt Ideal) (e := .f32) [⟨r0_1, p⟩] = p :=
  View.canon_unit_zero (by funext a; fin_cases a <;> rfl) _ _

theorem blk7 : out0_7 (F := Ideal) g0 g1 g2 ya y2 yc ct (ix2 r l) = dGate (g0 (ix2 r l)) (ya (ix2 r l)) (ct (ix2 r l)) := by
  unfold out0_7 dGate
  rw [canon_a, ld_a, ld_a, ld_a]
  open_payloads
  pointwise

theorem blk8 : out0_8 (F := Ideal) g0 g1 g2 ya y2 yc ct (ix2 r l)
    = dGate (g1 (ix2 r l)) (gated (y2 (ix2 r ⟨l.val, by omega⟩)) (y2 (ix2 r ⟨1024 + l.val, by omega⟩))) (ct (ix2 r l)) := by
  unfold out0_8 dGate gated
  rw [canon_a, ld_a, ld_b, ld_a]
  open_payloads
  pointwise

theorem blk9 : out0_9 (F := Ideal) g0 g1 g2 ya y2 yc ct (ix2 r l) = dGate (g2 (ix2 r l)) (yc (ix2 r l)) (ct (ix2 r l)) := by
  unfold out0_9 dGate
  rw [canon_a, ld_a, ld_a, ld_a]
  open_payloads
  pointwise

theorem blk10 : out0_10 (F := Ideal) g0 g1 g2 ya y2 yc ct (ix2 r l) = dBranch (g0 (ix2 r l)) (ct (ix2 r l)) := by
  unfold out0_10 dBranch
  rw [canon_a, ld_a, ld_a]
  open_payloads
  pointwise

theorem blk12 : out0_12 (F := Ideal) g0 g1 g2 ya y2 yc ct (ix2 r l) = dBranch (g2 (ix2 r l)) (ct (ix2 r l)) := by
  unfold out0_12 dBranch
  rw [canon_a, ld_a, ld_a]
  open_payloads
  pointwise

theorem blk11 (k : Fin 2048) : out0_11 (F := Ideal) g0 g1 g2 ya y2 yc ct (ix2 r k)
    = dPair (fun q => g1 (ix2 r q)) (fun q => y2 (ix2 r q)) (fun q => ct (ix2 r q)) k := by
  unfold out0_11 dPair
  rw [canon_b, ld_a, ld_b, ld_a]
  open_payloads
  by_cases hk : k.val < 1024
  · pointwise [hk, dBranch]
  · have e : ((⟨1024 + (k.val - 1024), by omega⟩ : Fin 2048)) = k := Fin.ext (by show 1024 + (k.val - 1024) = k.val; omega)
    pointwise [hk, dBranch, dGate, e]

end Blocks

/-! ## What the arrays hold at the end -/

/-- Which block of each array a point works on. -/
theorem idx : ∀ t : Fin cfg0.N, (win0_0.index t = ![t.val, 4] ∧ win0_1.index t = ![t.val, 5] ∧ win0_2.index t = ![t.val, 6] ∧ win0_3.index t = ![t.val, 0]
    ∧ win0_4.index t = ![t.val, 0] ∧ win0_5.index t = ![t.val, 0] ∧ win0_6.index t = ![t.val, 0])
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The row of the arrays that row `r` of the blocks of point `t` is. -/
def row (t : Fin cfg0.N) (r : Fin 256) : Fin 2048 :=
  ⟨t.val * 256 + r.val, by have ht : t.val < 8 := lt_of_lt_of_eq t.isLt N_0; omega⟩

theorem in0 (t : Fin cfg0.N) (r : Fin 256) (l : Fin 1024) :
    iblk m c 0 t (ix2 r l) = m ((c : Thread nD τ).loc main_arg0) (ix2 (row t r) ⟨4096 + l.val, by omega⟩) := by blk_ext [iblk, V, idx t, row]
theorem in1 (t : Fin cfg0.N) (r : Fin 256) (l : Fin 1024) :
    iblk m c 1 t (ix2 r l) = m ((c : Thread nD τ).loc main_arg0) (ix2 (row t r) ⟨5120 + l.val, by omega⟩) := by blk_ext [iblk, V, idx t, row]
theorem in2 (t : Fin cfg0.N) (r : Fin 256) (l : Fin 1024) :
    iblk m c 2 t (ix2 r l) = m ((c : Thread nD τ).loc main_arg0) (ix2 (row t r) ⟨6144 + l.val, by omega⟩) := by blk_ext [iblk, V, idx t, row]
theorem in3 (t : Fin cfg0.N) (r : Fin 256) (l : Fin 1024) :
    iblk m c 3 t (ix2 r l) = m ((c : Thread nD τ).loc main_arg1) (ix2 (row t r) l) := by blk_ext [iblk, V, idx t, row]
theorem in4 (t : Fin cfg0.N) (r : Fin 256) (l : Fin 2048) :
    iblk m c 4 t (ix2 r l) = m ((c : Thread nD τ).loc main_arg2) (ix2 (row t r) l) := by blk_ext [iblk, V, idx t, row]
theorem in5 (t : Fin cfg0.N) (r : Fin 256) (l : Fin 1024) :
    iblk m c 5 t (ix2 r l) = m ((c : Thread nD τ).loc main_arg3) (ix2 (row t r) l) := by blk_ext [iblk, V, idx t, row]
theorem in6 (t : Fin cfg0.N) (r : Fin 256) (l : Fin 1024) :
    iblk m c 6 t (ix2 r l) = m ((c : Thread nD τ).loc main_arg4) (ix2 (row t r) l) := by blk_ext [iblk, V, idx t, row]

theorem out7 : (dats m 0 c).arrAt 7 cfg0.N = fun i => rowGate 4096 (fun r k => m ((c : Thread nD τ).loc main_arg0) (ix2 r k))
    (fun r k => m ((c : Thread nD τ).loc main_arg1) (ix2 r k)) (fun r k => m ((c : Thread nD τ).loc main_arg4) (ix2 r k)) (i 0) (i 1) := by
  refine (dats m 0 c).arrAt_eq_of_covers 7 _ (by decide +kernel) fun t _ y => ?_
  blk_simp
  rw [after0_7]
  idx_vars y
  have hi : ((View.whole main_v0_0).slice (win0_7.rect t)).emb (ix2 y0 y1) = ix2 (row t y0) y1 := by blk_ext [idx t, row]
  rw [hi, blk7]
  rw [in0, in3, in6]; rfl

theorem out8 : (dats m 0 c).arrAt 8 cfg0.N = fun i => rowGate 5120 (fun r k => m ((c : Thread nD τ).loc main_arg0) (ix2 r k))
    (rowGated (fun r k => m ((c : Thread nD τ).loc main_arg2) (ix2 r k))) (fun r k => m ((c : Thread nD τ).loc main_arg4) (ix2 r k)) (i 0) (i 1) := by
  refine (dats m 0 c).arrAt_eq_of_covers 8 _ (by decide +kernel) fun t _ y => ?_
  blk_simp
  rw [after0_8]
  idx_vars y
  have hi : ((View.whole main_v0_1).slice (win0_8.rect t)).emb (ix2 y0 y1) = ix2 (row t y0) y1 := by blk_ext [idx t, row]
  rw [hi, blk8]
  rw [in1, in4, in4, in6]; rfl

theorem out9 : (dats m 0 c).arrAt 9 cfg0.N = fun i => rowGate 6144 (fun r k => m ((c : Thread nD τ).loc main_arg0) (ix2 r k))
    (fun r k => m ((c : Thread nD τ).loc main_arg3) (ix2 r k)) (fun r k => m ((c : Thread nD τ).loc main_arg4) (ix2 r k)) (i 0) (i 1) := by
  refine (dats m 0 c).arrAt_eq_of_covers 9 _ (by decide +kernel) fun t _ y => ?_
  blk_simp
  rw [after0_9]
  idx_vars y
  have hi : ((View.whole main_v0_2).slice (win0_9.rect t)).emb (ix2 y0 y1) = ix2 (row t y0) y1 := by blk_ext [idx t, row]
  rw [hi, blk9]
  rw [in2, in5, in6]; rfl

theorem out10 : (dats m 0 c).arrAt 10 cfg0.N = fun i => rowBranch 4096 (fun r k => m ((c : Thread nD τ).loc main_arg0) (ix2 r k))
    (fun r k => m ((c : Thread nD τ).loc main_arg4) (ix2 r k)) (i 0) (i 1) := by
  refine (dats m 0 c).arrAt_eq_of_covers 10 _ (by decide +kernel) fun t _ y => ?_
  blk_simp
  rw [after0_10]
  idx_vars y
  have hi : ((View.whole main_v0_3).slice (win0_10.rect t)).emb (ix2 y0 y1) = ix2 (row t y0) y1 := by blk_ext [idx t, row]
  rw [hi, blk10]
  rw [in0, in6]; rfl

theorem out11 : (dats m 0 c).arrAt 11 cfg0.N = fun i => rowPair (fun r k => m ((c : Thread nD τ).loc main_arg0) (ix2 r k))
    (fun r k => m ((c : Thread nD τ).loc main_arg2) (ix2 r k)) (fun r k => m ((c : Thread nD τ).loc main_arg4) (ix2 r k)) (i 0) (i 1) := by
  refine (dats m 0 c).arrAt_eq_of_covers 11 _ (by decide +kernel) fun t _ y => ?_
  blk_simp
  rw [after0_11]
  idx_vars y
  have hi : ((View.whole main_v0_4).slice (win0_11.rect t)).emb (ix2 y0 y1) = ix2 (row t y0) y1 := by blk_ext [idx t, row]
  rw [hi, blk11]
  simp only [in1, in4, in6]; rfl

theorem out12 : (dats m 0 c).arrAt 12 cfg0.N = fun i => rowBranch 6144 (fun r k => m ((c : Thread nD τ).loc main_arg0) (ix2 r k))
    (fun r k => m ((c : Thread nD τ).loc main_arg4) (ix2 r k)) (i 0) (i 1) := by
  refine (dats m 0 c).arrAt_eq_of_covers 12 _ (by decide +kernel) fun t _ y => ?_
  blk_simp
  rw [after0_12]
  idx_vars y
  have hi : ((View.whole main_v0_5).slice (win0_12.rect t)).emb (ix2 y0 y1) = ix2 (row t y0) y1 := by blk_ext [idx t, row]
  rw [hi, blk12]
  rw [in2, in6]; rfl

end Cert.Kernel9Ideal.Merge

end
-- ==== Proof.MergeRef.lean ====
/- The reference of the merge's gradient: each of its six results, number by number. -/
module

public import proofs.«01_k».proof.Proof.Gen.Reference9Ideal.Read
public import proofs.«01_k».proof.Proof.MergeSpec
public import Idealize.ShloMosaic.Lib.Pointwise

@[expose] public section

set_option maxRecDepth 16384

noncomputable section

namespace Cert.Reference9Ideal.Merge

open Cert.Merge
open Cert.Reference9Ideal Cert.Reference9Ideal.Gen Cert.Reference9Ideal.Read Idealize.ShloMosaic Idealize.ShloMosaic.TcCoe

variable (z : (⟨S2048x7168, .f32⟩ : BufTy).Contents (Elt Ideal)) (ya yc ct : (⟨S2048x1024, .f32⟩ : BufTy).Contents (Elt Ideal))
  (y2 : (⟨S2048x2048, .f32⟩ : BufTy).Contents (Elt Ideal)) (r : Fin 2048) (l : Fin 1024)

/-- The logistic as the reference's printed text writes it. -/
theorem logistic_eq (x : EReal) : Ideal.div 1 (1 + Ideal.exp (-x)) = Ideal.logistic x := rfl

theorem gate0 : val_main_v20 (F := Ideal) z (ix2 r l) = Ideal.logistic (z (ix2 r ⟨4096 + l.val, by omega⟩)) := by
  rw [← logistic_eq]
  pointwise [val_main_v20, val_main_v19, val_main_v18, val_main_v17, val_main_v16, val_main_v15, val_main_v0, val_main_cst_2, val_main_cst_3]

theorem gate1 : val_main_v30 (F := Ideal) z (ix2 r l) = Ideal.logistic (z (ix2 r ⟨5120 + l.val, by omega⟩)) := by
  rw [← logistic_eq]
  pointwise [val_main_v30, val_main_v29, val_main_v28, val_main_v27, val_main_v26, val_main_v25, val_main_v1, val_main_cst_5, val_main_cst_6]

theorem gate2 : val_main_v41 (F := Ideal) z (ix2 r l) = Ideal.logistic (z (ix2 r ⟨6144 + l.val, by omega⟩)) := by
  rw [← logistic_eq]
  pointwise [val_main_v41, val_main_v40, val_main_v39, val_main_v38, val_main_v37, val_main_v36, val_main_v2, val_main_cst_8, val_main_cst_9]

theorem own : val_main_v10 (F := Ideal) y2 (ix2 r l) = Ideal.logistic (y2 (ix2 r ⟨1024 + l.val, by omega⟩)) := by
  rw [← logistic_eq]
  pointwise [val_main_v10, val_main_v9, val_main_v8, val_main_v7, val_main_v6, val_main_v5, val_main_v4, val_main_cst, val_main_cst_0]

theorem res0 : val_main_v57 (F := Ideal) z ya ct (ix2 r l) = dGate (z (ix2 r ⟨4096 + l.val, by omega⟩)) (ya (ix2 r l)) (ct (ix2 r l)) := by
  unfold dGate
  rw [← gate0]
  pointwise [val_main_v57, val_main_v56, val_main_v47, val_main_v23, val_main_v22, val_main_v21, val_main_cst_4]

theorem res1 : val_main_v54 (F := Ideal) z y2 ct (ix2 r l)
    = dGate (z (ix2 r ⟨5120 + l.val, by omega⟩)) (gated (y2 (ix2 r ⟨l.val, by omega⟩)) (y2 (ix2 r ⟨1024 + l.val, by omega⟩))) (ct (ix2 r l)) := by
  unfold dGate gated
  rw [← gate1, ← own]
  pointwise [val_main_v54, val_main_v53, val_main_v47, val_main_v33, val_main_v32, val_main_v31, val_main_cst_7, val_main_v14, val_main_v3]

theorem res2 : val_main_v51 (F := Ideal) z yc ct (ix2 r l) = dGate (z (ix2 r ⟨6144 + l.val, by omega⟩)) (yc (ix2 r l)) (ct (ix2 r l)) := by
  unfold dGate
  rw [← gate2]
  pointwise [val_main_v51, val_main_v50, val_main_v48, val_main_v44, val_main_v43, val_main_v42, val_main_cst_10]

theorem res3 : val_main_v55 (F := Ideal) z ct (ix2 r l) = dBranch (z (ix2 r ⟨4096 + l.val, by omega⟩)) (ct (ix2 r l)) := by
  unfold dBranch
  rw [← gate0]
  pointwise [val_main_v55, val_main_v47]

theorem res5 : val_main_v49 (F := Ideal) z ct (ix2 r l) = dBranch (z (ix2 r ⟨6144 + l.val, by omega⟩)) (ct (ix2 r l)) := by
  unfold dBranch
  rw [← gate2]
  pointwise [val_main_v49, val_main_v48]

theorem mid : val_main_v52 (F := Ideal) z ct (ix2 r l) = dBranch (z (ix2 r ⟨5120 + l.val, by omega⟩)) (ct (ix2 r l)) := by
  unfold dBranch
  rw [← gate1]
  pointwise [val_main_v52, val_main_v47]

theorem half0 : val_main_v59 (F := Ideal) z y2 ct (ix2 r l)
    = dBranch (z (ix2 r ⟨5120 + l.val, by omega⟩)) (ct (ix2 r l)) * Ideal.logistic (y2 (ix2 r ⟨1024 + l.val, by omega⟩)) := by
  rw [← own, ← mid]
  pointwise [val_main_v59]

theorem half1 : val_main_v60 (F := Ideal) z y2 ct (ix2 r l)
    = dGate (y2 (ix2 r ⟨1024 + l.val, by omega⟩)) (dBranch (z (ix2 r ⟨5120 + l.val, by omega⟩)) (ct (ix2 r l))) (y2 (ix2 r ⟨l.val, by omega⟩)) := by
  unfold dGate
  rw [← own, ← mid]
  pointwise [val_main_v60, val_main_v58, val_main_v13, val_main_v12, val_main_v11, val_main_cst_1, val_main_v3]

theorem res4 (k : Fin 2048) : val_main_v61 (F := Ideal) z y2 ct (ix2 r k)
    = dPair (fun q => z (ix2 r ⟨5120 + q.val, by omega⟩)) (fun q => y2 (ix2 r q)) (fun q => ct (ix2 r q)) k := by
  unfold dPair
  by_cases hk : k.val < 1024
  · rw [dif_pos hk, ← half0 z ct y2 r ⟨k.val, hk⟩]
    pointwise [val_main_v61, hk]
  · rw [dif_neg hk]
    have e : ((⟨1024 + (k.val - 1024), by omega⟩ : Fin 2048)) = k := Fin.ext (by show 1024 + (k.val - 1024) = k.val; omega)
    have := half1 z ct y2 r ⟨k.val - 1024, by omega⟩
    simp only [e] at this
    rw [← this]
    pointwise [val_main_v61, hk]

/-! ## The six results, index by index -/

theorem closed0 (i : S2048x1024.Idx) : val_main_v57 (F := Ideal) z ya ct i
    = rowGate 4096 (fun r k => z (ix2 r k)) (fun r k => ya (ix2 r k)) (fun r k => ct (ix2 r k)) (i 0) (i 1) := by
  idx_vars i
  exact res0 _ _ _ i0 i1

theorem closed1 (i : S2048x1024.Idx) : val_main_v54 (F := Ideal) z y2 ct i
    = rowGate 5120 (fun r k => z (ix2 r k)) (rowGated (fun r k => y2 (ix2 r k))) (fun r k => ct (ix2 r k)) (i 0) (i 1) := by
  idx_vars i
  exact res1 _ _ _ i0 i1

theorem closed2 (i : S2048x1024.Idx) : val_main_v51 (F := Ideal) z yc ct i
    = rowGate 6144 (fun r k => z (ix2 r k)) (fun r k => yc (ix2 r k)) (fun r k => ct (ix2 r k)) (i 0) (i 1) := by
  idx_vars i
  exact res2 _ _ _ i0 i1

theorem closed3 (i : S2048x1024.Idx) : val_main_v55 (F := Ideal) z ct i
    = rowBranch 4096 (fun r k => z (ix2 r k)) (fun r k => ct (ix2 r k)) (i 0) (i 1) := by
  idx_vars i
  exact res3 _ _ i0 i1

theorem closed4 (i : S2048x2048.Idx) : val_main_v61 (F := Ideal) z y2 ct i
    = rowPair (fun r k => z (ix2 r k)) (fun r k => y2 (ix2 r k)) (fun r k => ct (ix2 r k)) (i 0) (i 1) := by
  idx_vars i
  exact res4 _ _ _ i0 i1

theorem closed5 (i : S2048x1024.Idx) : val_main_v49 (F := Ideal) z ct i
    = rowBranch 6144 (fun r k => z (ix2 r k)) (fun r k => ct (ix2 r k)) (i 0) (i 1) := by
  idx_vars i
  exact res5 _ _ i0 i1

end Cert.Reference9Ideal.Merge

end
-- ==== Proof.MidSpec.lean ====
/- The gradient of the middle of the feed-forward part, for one column: a causal convolution over three rows, the
   tanh form of the Gaussian unit, a gate. And what the shifted rows of a kernel or of a reference come to. -/
module

public import Idealize.ShloMosaic.PureOps.Ideal
public import Idealize.ShloMosaic.Lib.Pointwise
public import Idealize.ShloMosaic.Lib.WordCmp

@[expose] public section

noncomputable section

namespace Cert.Mid

open Idealize.ShloMosaic

/-! ## The unit -/

/-- The hyperbolic tangent inside the unit, at `x`. -/
def th (x : EReal) : EReal :=
  Ideal.tanh (Ideal.ofBits .f32 0x3F4C422A#32 * (x + Ideal.ofBits .f32 0x3D372713#32 * (x * (x * x))))

/-- The share of its argument the unit lets through. -/
def half (x : EReal) : EReal := Ideal.ofBits .f32 0x3F000000#32 * (1 + th x)

/-- The part of the unit's gradient that comes through the tangent, before the polynomial inside it. -/
def dInner (x u : EReal) : EReal :=
  Ideal.ofBits .f32 0x3F4C422A#32 * (Ideal.ofBits .f32 0x3F000000#32 * (x * u) * ((1 + th x) * (1 - th x)))

/-- The gradient of the unit at `x`, for the cotangent `u`. -/
def dGelu (x u : EReal) : EReal :=
  u * half x + dInner x u + Ideal.ofBits .f32 0x3D372713#32 * dInner x u * (Ideal.ofBits .f32 0x40400000#32 * (x * x))

/-! ## The convolution -/

/-- The rows `n` later: row `r` of the result is row `r - n`, and 0 before the first. -/
def prev (n : ℕ) (a : Fin 2048 → EReal) (r : Fin 2048) : EReal := if n ≤ r.val then a ⟨r.val - n, by omega⟩ else 0

/-- The rows `n` earlier: row `r` of the result is row `r + n`, and 0 after the last. -/
def next (n : ℕ) (f : Fin 2048 → EReal) (r : Fin 2048) : EReal := if h : r.val + n < 2048 then f ⟨r.val + n, h⟩ else 0

/-- What goes into the unit. -/
def pre (w : Fin 3 → EReal) (b : EReal) (a : Fin 2048 → EReal) (r : Fin 2048) : EReal :=
  w 2 * a r + w 1 * prev 1 a r + w 0 * prev 2 a r + b

/-- The gradient of what goes into the unit. -/
def dPre (w : Fin 3 → EReal) (b : EReal) (a g dh : Fin 2048 → EReal) (r : Fin 2048) : EReal :=
  dGelu (pre w b a r) (dh r * g r)

/-- The gradient of the rows that are convolved. -/
def dA (w : Fin 3 → EReal) (f : Fin 2048 → EReal) (r : Fin 2048) : EReal := w 2 * f r + w 1 * next 1 f r + w 0 * next 2 f r

/-- The gradient of the gate. -/
def dG (w : Fin 3 → EReal) (b : EReal) (a dh : Fin 2048 → EReal) (r : Fin 2048) : EReal :=
  dh r * (pre w b a r * half (pre w b a r))

/-- The gradient of tap `j` of the convolution. -/
def dW (f a : Fin 2048 → EReal) (j : Fin 3) : EReal := ∑ r : Fin 2048, f r * prev (2 - j.val) a r

/-! ## The four gradients, index by index: `up` holds the rows that are convolved, then the gates -/

section Arrays

variable (up : Fin 2048 → Fin 6144 → EReal) (w : Fin 3 → Fin 3072 → EReal) (b : Fin 3072 → EReal) (dh : Fin 2048 → Fin 3072 → EReal)

/-- The gradient of the unit's argument, in column `l`. -/
def preCol (l : Fin 3072) : Fin 2048 → EReal :=
  dPre (fun j => w j l) (b l) (fun k => up k ⟨l.val, by omega⟩) (fun k => up k ⟨3072 + l.val, by omega⟩) (fun k => dh k l)

def arrA (r : Fin 2048) (l : Fin 3072) : EReal := dA (fun j => w j l) (preCol up w b dh l) r

def arrG (r : Fin 2048) (l : Fin 3072) : EReal := dG (fun j => w j l) (b l) (fun k => up k ⟨l.val, by omega⟩) (fun k => dh k l) r

def arrW (j : Fin 3) (l : Fin 3072) : EReal := dW (preCol up w b dh l) (fun k => up k ⟨l.val, by omega⟩) j

def arrB (l : Fin 3072) : EReal := ∑ k : Fin 2048, preCol up w b dh l k

end Arrays

/-! ## Shifted rows, as they are computed -/

theorem prev_zero (a : Fin 2048 → EReal) (r : Fin 2048) : prev 0 a r = a r := by
  unfold prev
  rw [if_pos (Nat.zero_le _)]
  rfl

theorem select_prev (n : ℕ) (hn : n < 2048) (w : EReal) (a : Fin 2048 → EReal) (r : Fin 2048) (h : (r.val + 2048 - n) % 2048 < 2048) :
    Scalar.select (IntOp.cmpi CmpIPredicate.sge (BitVec.ofNat 32 r.val) (BitVec.ofNat 32 n)) (w * a ⟨(r.val + 2048 - n) % 2048, h⟩) 0
      = w * prev n a r := by
  have hr := r.isLt
  rw [WordCmp.cmpi_sge_ofNat (by omega) (by omega)]
  unfold prev
  by_cases hnr : n ≤ r.val
  · have e : (⟨(r.val + 2048 - n) % 2048, h⟩ : Fin 2048) = ⟨r.val - n, by omega⟩ := Fin.ext (by show (r.val + 2048 - n) % 2048 = r.val - n; omega)
    rw [e, if_pos hnr]
    simp [hnr, Scalar.select]
  · rw [if_neg hnr, mul_zero]
    simp [hnr, Scalar.select]

theorem select_next (n k : ℕ) (hk : n + k = 2048) (w : EReal) (f : Fin 2048 → EReal) (r : Fin 2048) (h : (r.val + 2048 - k) % 2048 < 2048) :
    Scalar.select (IntOp.cmpi CmpIPredicate.slt (BitVec.ofNat 32 r.val) (BitVec.ofNat 32 k)) (w * f ⟨(r.val + 2048 - k) % 2048, h⟩) 0
      = w * next n f r := by
  have hr := r.isLt
  rw [WordCmp.cmpi_slt_ofNat (by omega) (by omega)]
  unfold next
  by_cases hnr : r.val + n < 2048
  · have e : (⟨(r.val + 2048 - k) % 2048, h⟩ : Fin 2048) = ⟨r.val + n, hnr⟩ := Fin.ext (by show (r.val + 2048 - k) % 2048 = r.val + n; omega)
    rw [e, dif_pos hnr]
    have hlt : r.val < k := by omega
    simp [hlt, Scalar.select]
  · rw [dif_neg hnr, mul_zero]
    have hlt : ¬ r.val < k := by omega
    simp [hlt, Scalar.select]

end Cert.Mid

end
-- ==== Proof.Mid.lean ====
/- The gradient of the middle of the feed-forward part: what the call's four output arrays hold. -/
module

public import proofs.«01_k».proof.Proof.Gen.Kernel8Ideal.Value
public import proofs.«01_k».proof.Proof.Gen.Kernel8Ideal.Frame
public import proofs.«01_k».proof.Proof.MidSpec
public import Idealize.ShloMosaic.Lib.Pipeline.ValueKit
public import Idealize.ShloMosaic.Lib.Pointwise

@[expose] public section

set_option maxRecDepth 16384

noncomputable section

namespace Cert.Kernel8Ideal.Mid

open Cert.Mid
open Cert.Kernel8Ideal Cert.Kernel8Ideal.Gen Cert.Kernel8Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-! ## What a point leaves, from its blocks: column by column -/

section Blocks

variable (a g dh : Vec Ideal S2048x256 .f32) (w : Vec Ideal S3x256 .f32) (b : Vec Ideal S1x256 .f32) (r : Fin 2048) (l : Fin 256)

theorem ld_a (x : Vec Ideal S2048x256 .f32) : View.ld x r0_0 = x := View.ld_unit_zero (by funext a; fin_cases a <;> rfl) _ _
theorem ld_w (x : Vec Ideal S3x256 .f32) : View.ld x r0_1 = x := View.ld_unit_zero (by funext a; fin_cases a <;> rfl) _ _
theorem ld_b (x : Vec Ideal S1x256 .f32) : View.ld x r0_2 = x := View.ld_unit_zero (by funext a; fin_cases a <;> rfl) _ _

theorem pay_pre : k0_pay2 (F := Ideal) a w b (ix2 r l) = pre (fun j => w (ix2 j l)) (b (ix2 0 l)) (fun k => a (ix2 k l)) r := by
  unfold pre
  rw [← select_prev 1 (by omega) _ _ _ (Nat.mod_lt _ (by omega)), ← select_prev 2 (by omega) _ _ _ (Nat.mod_lt _ (by omega))]
  open_payloads
  pointwise

theorem v21 : k0_pay21 (F := Ideal) a g w b dh = k0_pay2 a w b := by unfold k0_pay21; rw [ld_a, ld_w, ld_b]
theorem v22 : k0_pay22 (F := Ideal) a g w b dh = k0_pay3 a w b := by unfold k0_pay22; rw [ld_a, ld_w, ld_b]
theorem v23 : k0_pay23 (F := Ideal) a g w b dh = k0_pay4 a w b := by unfold k0_pay23; rw [ld_a, ld_w, ld_b]
theorem v24 : k0_pay24 (F := Ideal) a g w b dh = k0_pay5 := by unfold k0_pay24; rfl
theorem v26 : k0_pay26 (F := Ideal) a g w b dh = k0_pay12 a := by unfold k0_pay26; rw [ld_a]

theorem pay_dPre : k0_pay9 (F := Ideal) dh (k0_pay2 a w b) (k0_pay3 a w b) (k0_pay4 a w b) k0_pay5 g (ix2 r l)
    = dPre (fun j => w (ix2 j l)) (b (ix2 0 l)) (fun k => a (ix2 k l)) (fun k => g (ix2 k l)) (fun k => dh (ix2 k l)) r := by
  unfold dPre dGelu dInner half th
  rw [← pay_pre]
  unfold k0_pay9 k0_pay3 k0_pay4 k0_pay5 k0_pay6 k0_pay7 k0_pay6
  pointwise

theorem v25 : k0_pay25 (F := Ideal) a g w b dh (ix2 r l)
    = dPre (fun j => w (ix2 j l)) (b (ix2 0 l)) (fun k => a (ix2 k l)) (fun k => g (ix2 k l)) (fun k => dh (ix2 k l)) r := by
  rw [← pay_dPre]
  unfold k0_pay25
  rw [ld_a, ld_a, v21, v22, v23, v24]
  unfold k0_pay11
  pointwise

theorem canon_a (p : Vec Ideal S2048x256 .bf16) : View.canon (Val := Elt Ideal) (e := .bf16) [⟨r0_0, p⟩] = p :=
  View.canon_unit_zero (by funext a; fin_cases a <;> rfl) _ _
theorem canon_b (p : Vec Ideal S1x256 .f32) : View.canon (Val := Elt Ideal) (e := .f32) [⟨r0_2, p⟩] = p :=
  View.canon_unit_zero (by funext a; fin_cases a <;> rfl) _ _

/-- The gradient of the unit's argument, column by column. -/
abbrev col : Fin 2048 → EReal :=
  dPre (fun j => w (ix2 j l)) (b (ix2 0 l)) (fun k => a (ix2 k l)) (fun k => g (ix2 k l)) (fun k => dh (ix2 k l))

theorem col_eq : col a g dh w b l = fun k => k0_pay25 (F := Ideal) a g w b dh (ix2 k l) := funext fun k => (v25 a g dh w b k l).symm

theorem pay_tap : k0_pay14 (F := Ideal) w dh (k0_pay21 a g w b dh) (k0_pay22 a g w b dh) (k0_pay23 a g w b dh) (k0_pay24 a g w b dh) g (ix2 r l)
    = @HMul.hMul EReal EReal EReal _ (w (ix2 2 l)) (k0_pay25 (F := Ideal) a g w b dh (ix2 r l)) := by
  unfold k0_pay25
  rw [ld_a, ld_a]
  unfold k0_pay14 k0_pay13
  pointwise

theorem blk5 : out0_5 (F := Ideal) a g w b dh (ix2 r l) = dA (fun j => w (ix2 j l)) (col a g dh w b l) r := by
  rw [col_eq]
  unfold dA
  rw [← pay_tap]
  rw [← select_next 1 2047 rfl _ _ _ (Nat.mod_lt _ (by omega)), ← select_next 2 2046 rfl _ _ _ (Nat.mod_lt _ (by omega))]
  unfold out0_5
  rw [canon_a, ld_w, ld_a, ld_a]
  unfold k0_pay16 k0_pay15 k0_pay13
  pointwise

theorem blk6 : out0_6 (F := Ideal) a g w b dh (ix2 r l) = dG (fun j => w (ix2 j l)) (b (ix2 0 l)) (fun k => a (ix2 k l)) (fun k => dh (ix2 k l)) r := by
  unfold dG half th
  rw [← pay_pre]
  unfold out0_6
  rw [canon_a, ld_a, v21, v23, v24]
  unfold k0_pay8 k0_pay4 k0_pay5 k0_pay7 k0_pay6
  pointwise

theorem blk8 : out0_8 (F := Ideal) a g w b dh (ix2 0 l) = ∑ k : Fin 2048, col a g dh w b l k := by
  unfold col
  simp only [← pay_dPre]
  unfold out0_8
  rw [canon_b, ld_a, ld_a, v21, v22, v23, v24]
  unfold k0_pay10
  pointwise

theorem tap2 : k0_pay17 (F := Ideal) (k0_pay25 a g w b dh) (k0_pay26 a g w b dh) (ix2 0 l) = dW (col a g dh w b l) (fun k => a (ix2 k l)) 2 := by
  rw [col_eq, v26]
  unfold k0_pay17 k0_pay12 dW
  show _ = ∑ k : Fin 2048, k0_pay25 (F := Ideal) a g w b dh (ix2 k l) * prev 0 (fun k => a (ix2 k l)) k
  simp only [prev_zero]
  pointwise

theorem tap1 : k0_pay18 (F := Ideal) (k0_pay25 a g w b dh) (k0_pay26 a g w b dh) (ix2 0 l) = dW (col a g dh w b l) (fun k => a (ix2 k l)) 1 := by
  rw [col_eq, v26]
  unfold k0_pay18 k0_pay12 dW
  show _ = ∑ k : Fin 2048, @HMul.hMul EReal EReal EReal _ (k0_pay25 (F := Ideal) a g w b dh (ix2 k l)) (prev 1 (fun k => a (ix2 k l)) k)
  simp only [← fun w a r => select_prev 1 (by omega) w a r (Nat.mod_lt _ (by omega))]
  pointwise

theorem tap0 : k0_pay1 (F := Ideal) (k0_pay25 a g w b dh) k0_pay19 (k0_pay20 (k0_pay26 a g w b dh)) (Scalar.ofBits .f32 0x00000000#32) (ix2 0 l)
    = dW (col a g dh w b l) (fun k => a (ix2 k l)) 0 := by
  rw [col_eq, v26]
  unfold k0_pay1 k0_pay19 k0_pay20 k0_pay12 dW
  show _ = ∑ k : Fin 2048, @HMul.hMul EReal EReal EReal _ (k0_pay25 (F := Ideal) a g w b dh (ix2 k l)) (prev 2 (fun k => a (ix2 k l)) k)
  simp only [← fun w a r => select_prev 2 (by omega) w a r (Nat.mod_lt _ (by omega))]
  pointwise

theorem blk7 (j : Fin 3) : out0_7 (F := Ideal) a g w b dh (ix2 j l) = dW (col a g dh w b l) (fun k => a (ix2 k l)) j := by
  unfold out0_7
  generalize hy : (ix2 j l : S3x256.Idx) = y
  canon_tiles x h
  · subst hy
    have hx : x = ix2 0 l := by
      funext q
      apply Fin.ext
      fin_cases q
      · show (x 0).val = 0; omega
      · exact h1.symm
    have hj : j = 0 := Fin.ext (by show (ix2 j l 0).val = 0; omega)
    rw [hx, hj]
    exact tap0 a g dh w b l
  · subst hy
    have hx : x = ix2 0 l := by
      funext q
      apply Fin.ext
      fin_cases q
      · show (x 0).val = 0; omega
      · exact h1.symm
    have hj : j = 1 := Fin.ext (by show (ix2 j l 0).val = 1; omega)
    rw [hx, hj]
    exact tap1 a g dh w b l
  · subst hy
    have hx : x = ix2 0 l := by
      funext q
      apply Fin.ext
      fin_cases q
      · show (x 0).val = 0; omega
      · exact h1.symm
    have hj : j = 2 := Fin.ext (by show (ix2 j l 0).val = 2; omega)
    rw [hx, hj]
    exact tap2 a g dh w b l

end Blocks

/-! ## What the arrays hold at the end -/

/-- Which block of each array a point works on. -/
theorem idx : ∀ t : Fin cfg0.N, (win0_0.index t = ![0, t.val] ∧ win0_1.index t = ![0, 12 + t.val] ∧ win0_2.index t = ![0, t.val] ∧ win0_3.index t = ![0, t.val]
    ∧ win0_4.index t = ![0, t.val]) ∧ win0_5.index t = ![0, t.val] ∧ win0_6.index t = ![0, t.val] ∧ win0_7.index t = ![0, t.val] ∧ win0_8.index t = ![0, t.val] :=
  (by decide +kernel : ∀ t : Fin grid0.N, _)

/-- The column of the arrays that column `l` of the blocks of point `t` is. -/
def lane (t : Fin cfg0.N) (l : Fin 256) : Fin 3072 :=
  ⟨t.val * 256 + l.val, by have ht : t.val < 12 := lt_of_lt_of_eq t.isLt N_0; omega⟩

theorem in0 (t : Fin cfg0.N) (r : Fin 2048) (l : Fin 256) :
    iblk m c 0 t (ix2 r l) = m ((c : Thread nD τ).loc main_arg0) (ix2 r ⟨(lane t l).val, by omega⟩) := by blk_ext [iblk, V, idx t, lane]
theorem in1 (t : Fin cfg0.N) (r : Fin 2048) (l : Fin 256) :
    iblk m c 1 t (ix2 r l) = m ((c : Thread nD τ).loc main_arg0) (ix2 r ⟨3072 + (lane t l).val, by omega⟩) := by blk_ext [iblk, V, idx t, lane]
theorem in2 (t : Fin cfg0.N) (r : Fin 3) (l : Fin 256) :
    iblk m c 2 t (ix2 r l) = m ((c : Thread nD τ).loc main_arg1) (ix2 r (lane t l)) := by blk_ext [iblk, V, idx t, lane]
theorem in3 (t : Fin cfg0.N) (l : Fin 256) :
    iblk m c 3 t (ix2 0 l) = m ((c : Thread nD τ).loc main_arg2) (ix2 0 (lane t l)) := by blk_ext [iblk, V, idx t, lane]
theorem in4 (t : Fin cfg0.N) (r : Fin 2048) (l : Fin 256) :
    iblk m c 4 t (ix2 r l) = m ((c : Thread nD τ).loc main_arg3) (ix2 r (lane t l)) := by blk_ext [iblk, V, idx t, lane]

theorem col_in (t : Fin cfg0.N) (l : Fin 256) : col (iblk m c 0 t) (iblk m c 1 t) (iblk m c 4 t) (iblk m c 2 t) (iblk m c 3 t) l
    = preCol (fun r k => m ((c : Thread nD τ).loc main_arg0) (ix2 r k)) (fun r k => m ((c : Thread nD τ).loc main_arg1) (ix2 r k))
      (fun k => m ((c : Thread nD τ).loc main_arg2) (ix2 0 k)) (fun r k => m ((c : Thread nD τ).loc main_arg3) (ix2 r k)) (lane t l) := by
  simp only [col, in0, in1, in2, in3, in4]
  rfl

theorem out5 : (dats m 0 c).arrAt 5 cfg0.N = fun i => arrA (fun r k => m ((c : Thread nD τ).loc main_arg0) (ix2 r k)) (fun r k => m ((c : Thread nD τ).loc main_arg1) (ix2 r k))
    (fun k => m ((c : Thread nD τ).loc main_arg2) (ix2 0 k)) (fun r k => m ((c : Thread nD τ).loc main_arg3) (ix2 r k)) (i 0) (i 1) := by
  refine (dats m 0 c).arrAt_eq_of_covers 5 _ (by decide +kernel) fun t _ y => ?_
  blk_simp
  rw [after0_5]
  idx_vars y
  have hi : ((View.whole main_v0_0).slice (win0_5.rect t)).emb (ix2 y0 y1) = ix2 y0 (lane t y1) := by blk_ext [idx t, lane]
  rw [hi, blk5]
  rw [col_in]; simp only [in2]; rfl

theorem out6 : (dats m 0 c).arrAt 6 cfg0.N = fun i => arrG (fun r k => m ((c : Thread nD τ).loc main_arg0) (ix2 r k)) (fun r k => m ((c : Thread nD τ).loc main_arg1) (ix2 r k))
    (fun k => m ((c : Thread nD τ).loc main_arg2) (ix2 0 k)) (fun r k => m ((c : Thread nD τ).loc main_arg3) (ix2 r k)) (i 0) (i 1) := by
  refine (dats m 0 c).arrAt_eq_of_covers 6 _ (by decide +kernel) fun t _ y => ?_
  blk_simp
  rw [after0_6]
  idx_vars y
  have hi : ((View.whole main_v0_1).slice (win0_6.rect t)).emb (ix2 y0 y1) = ix2 y0 (lane t y1) := by blk_ext [idx t, lane]
  rw [hi, blk6]
  simp only [in0, in2, in3, in4]; rfl

theorem out7 : (dats m 0 c).arrAt 7 cfg0.N = fun i => arrW (fun r k => m ((c : Thread nD τ).loc main_arg0) (ix2 r k)) (fun r k => m ((c : Thread nD τ).loc main_arg1) (ix2 r k))
    (fun k => m ((c : Thread nD τ).loc main_arg2) (ix2 0 k)) (fun r k => m ((c : Thread nD τ).loc main_arg3) (ix2 r k)) (i 0) (i 1) := by
  refine (dats m 0 c).arrAt_eq_of_covers 7 _ (by decide +kernel) fun t _ y => ?_
  blk_simp
  rw [after0_7]
  idx_vars y
  have hi : ((View.whole main_v0_2).slice (win0_7.rect t)).emb (ix2 y0 y1) = ix2 y0 (lane t y1) := by blk_ext [idx t, lane]
  rw [hi, blk7]
  rw [col_in]; simp only [in0]; rfl

theorem out8 : (dats m 0 c).arrAt 8 cfg0.N = fun i => arrB (fun r k => m ((c : Thread nD τ).loc main_arg0) (ix2 r k)) (fun r k => m ((c : Thread nD τ).loc main_arg1) (ix2 r k))
    (fun k => m ((c : Thread nD τ).loc main_arg2) (ix2 0 k)) (fun r k => m ((c : Thread nD τ).loc main_arg3) (ix2 r k)) (i 1) := by
  refine (dats m 0 c).arrAt_eq_of_covers 8 _ (by decide +kernel) fun t _ y => ?_
  blk_simp
  rw [after0_8]
  idx_vars y
  have h0 : y0 = 0 := Fin.ext (by omega)
  subst h0
  have hi : ((View.whole main_v0_3).slice (win0_8.rect t)).emb (ix2 0 y1) = ix2 0 (lane t y1) := by blk_ext [idx t, lane]
  rw [hi, blk8]
  rw [col_in]; rfl

end Cert.Kernel8Ideal.Mid

end
-- ==== Proof.MidRef.lean ====
/- The reference of the gradient of the middle of the feed-forward part: each of its four results, index by index. -/
module

public import proofs.«01_k».proof.Proof.Gen.Reference8Ideal.Read
public import proofs.«01_k».proof.Proof.MidSpec
public import Idealize.ShloMosaic.Lib.Pointwise

@[expose] public section

set_option maxRecDepth 16384

noncomputable section

namespace Cert.Reference8Ideal.Mid

open Cert.Mid
open Cert.Reference8Ideal Cert.Reference8Ideal.Gen Cert.Reference8Ideal.Read Idealize.ShloMosaic Idealize.ShloMosaic.TcCoe

variable (up : (⟨S2048x6144, .f32⟩ : BufTy).Contents (Elt Ideal)) (w : (⟨S3x3072, .f32⟩ : BufTy).Contents (Elt Ideal))
  (b : (⟨S1x3072, .f32⟩ : BufTy).Contents (Elt Ideal)) (dh : (⟨S2048x3072, .f32⟩ : BufTy).Contents (Elt Ideal)) (r : Fin 2048) (l : Fin 3072)

/-! ## Shifted rows -/

theorem later1 : val_main_v8 (F := Ideal) up (ix2 r l) = prev 1 (fun k => up (ix2 k ⟨l.val, by omega⟩)) r := by
  unfold prev
  by_cases h : 1 ≤ r.val
  · have h' : ¬ r.val < 1 := by omega
    rw [if_pos h]
    pointwise [val_main_v8, val_main_v7, val_main_v6, val_main_v0, val_main_cst, h']
  · have h' : r.val < 1 := by omega
    rw [if_neg h]
    pointwise [val_main_v8, val_main_v7, val_main_v6, val_main_v0, val_main_cst, h']

theorem later2 : val_main_v16 (F := Ideal) up (ix2 r l) = prev 2 (fun k => up (ix2 k ⟨l.val, by omega⟩)) r := by
  unfold prev
  by_cases h : 2 ≤ r.val
  · have h' : ¬ r.val < 2 := by omega
    rw [if_pos h]
    pointwise [val_main_v16, val_main_v15, val_main_v14, val_main_v0, val_main_cst_1, h']
  · have h' : r.val < 2 := by omega
    rw [if_neg h]
    pointwise [val_main_v16, val_main_v15, val_main_v14, val_main_v0, val_main_cst_1, h']

/-! ## The unit's argument and its gradient -/

theorem arg_eq : val_main_v22 (F := Ideal) up w b (ix2 r l)
    = pre (fun j => w (ix2 j l)) (b (ix2 0 l)) (fun k => up (ix2 k ⟨l.val, by omega⟩)) r := by
  unfold pre
  rw [← later1, ← later2]
  pointwise [val_main_v22, val_main_v21, val_main_v20, val_main_v19, val_main_v18, val_main_v13, val_main_v12, val_main_v11, val_main_v10, val_main_v5,
    val_main_v4, val_main_v3, val_main_v2, val_main_v0]

theorem half_eq : val_main_v42 (F := Ideal) up w b (ix2 r l) = half (val_main_v22 (F := Ideal) up w b (ix2 r l)) := by
  unfold half th
  pointwise [val_main_v42, val_main_v41, val_main_v40, val_main_v39, val_main_v33, val_main_v32, val_main_v31, val_main_v30, val_main_v29, val_main_v28,
    val_main_v24, val_main_v23, val_main_cst_9, val_main_cst_8, val_main_cst_5, val_main_cst_4]
  rw [mul_comm (_ * _) (val_main_v22 (F := Ideal) up w b (ix2 r l))]

theorem dArg_eq : val_main_v58 (F := Ideal) up w b dh (ix2 r l)
    = preCol (fun r k => up (ix2 r k)) (fun r k => w (ix2 r k)) (fun k => b (ix2 0 k)) (fun r k => dh (ix2 r k)) l r := by
  unfold preCol dPre dGelu dInner
  rw [← arg_eq, ← half_eq]
  unfold th
  pointwise [val_main_v58, val_main_v57, val_main_v56, val_main_v55, val_main_v54, val_main_v53, val_main_v52, val_main_v51, val_main_v50, val_main_v49,
    val_main_v48, val_main_v47, val_main_v46, val_main_v38, val_main_v37, val_main_v36, val_main_v35, val_main_v34, val_main_v33, val_main_v32, val_main_v31,
    val_main_v30, val_main_v29, val_main_v28, val_main_v27, val_main_v26, val_main_v25, val_main_v24, val_main_v23, val_main_v1,
    val_main_cst_12, val_main_cst_11, val_main_cst_10, val_main_cst_7, val_main_cst_6, val_main_cst_5, val_main_cst_4, val_main_cst_3]
  rw [mul_comm (_ * _) (val_main_v22 (F := Ideal) up w b (ix2 r l))]

/-! ## The four results -/

/-- The gradient of the unit's argument, on every row of column `l`. -/
theorem dCol : (fun k => val_main_v58 (F := Ideal) up w b dh (ix2 k l))
    = preCol (fun r k => up (ix2 r k)) (fun r k => w (ix2 r k)) (fun k => b (ix2 0 k)) (fun r k => dh (ix2 r k)) l :=
  funext fun k => dArg_eq up w b dh k l

theorem earlier1 (f : Fin 2048 → EReal) (hf : f = fun k => val_main_v58 (F := Ideal) up w b dh (ix2 k l)) :
    val_main_v77 (F := Ideal) up w b dh (ix2 r l) = @HMul.hMul EReal EReal EReal _ (w (ix2 1 l)) (next 1 f r) := by
  subst hf
  unfold next
  by_cases h : r.val + 1 < 2048
  · have h' : r.val < 2047 := by omega
    rw [dif_pos h]
    pointwise [val_main_v77, val_main_v76, val_main_v71, val_main_v70, val_main_v5, val_main_cst_18, h']
    rw [show (⟨1 + r.val, by omega⟩ : Fin 2048) = ⟨r.val + 1, h⟩ from Fin.ext (Nat.add_comm _ _)]
  · have h' : ¬ r.val < 2047 := by omega
    rw [dif_neg h, mul_zero]
    pointwise [val_main_v77, val_main_v76, val_main_v71, val_main_v70, val_main_v5, val_main_cst_18, h']

theorem earlier2 (f : Fin 2048 → EReal) (hf : f = fun k => val_main_v58 (F := Ideal) up w b dh (ix2 k l)) :
    val_main_v68 (F := Ideal) up w b dh (ix2 r l) = @HMul.hMul EReal EReal EReal _ (w (ix2 0 l)) (next 2 f r) := by
  subst hf
  unfold next
  by_cases h : r.val + 2 < 2048
  · have h' : r.val < 2046 := by omega
    rw [dif_pos h]
    pointwise [val_main_v68, val_main_v67, val_main_v62, val_main_v61, val_main_v13, val_main_cst_15, h']
    rw [show (⟨2 + r.val, by omega⟩ : Fin 2048) = ⟨r.val + 2, h⟩ from Fin.ext (Nat.add_comm _ _)]
  · have h' : ¬ r.val < 2046 := by omega
    rw [dif_neg h, mul_zero]
    pointwise [val_main_v68, val_main_v67, val_main_v62, val_main_v61, val_main_v13, val_main_cst_15, h']

theorem tap2 : val_main_v82 (F := Ideal) up w b dh (ix2 r l)
    = @HMul.hMul EReal EReal EReal _ (w (ix2 2 l)) (val_main_v58 (F := Ideal) up w b dh (ix2 r l)) := by
  pointwise [val_main_v82, val_main_v81, val_main_v2]

theorem resA : val_main_v89 (F := Ideal) up w b dh (ix2 r l)
    = arrA (fun r k => up (ix2 r k)) (fun r k => w (ix2 r k)) (fun k => b (ix2 0 k)) (fun r k => dh (ix2 r k)) r l := by
  unfold arrA dA
  rw [← dCol, ← earlier1 up w b dh r l _ rfl, ← earlier2 up w b dh r l _ rfl, ← tap2]
  pointwise [val_main_v89, val_main_v83, val_main_v78]
  ac_rfl

theorem resG : val_main_v90 (F := Ideal) up w b dh (ix2 r l)
    = arrG (fun r k => up (ix2 r k)) (fun r k => w (ix2 r k)) (fun k => b (ix2 0 k)) (fun r k => dh (ix2 r k)) r l := by
  unfold arrG dG
  rw [← arg_eq, ← half_eq, mul_comm]
  pointwise [val_main_v90, val_main_v45, val_main_v43]

theorem resB : val_main_v60 (F := Ideal) up w b dh (ix2 0 l)
    = arrB (fun r k => up (ix2 r k)) (fun r k => w (ix2 r k)) (fun k => b (ix2 0 k)) (fun r k => dh (ix2 r k)) l := by
  unfold arrB
  rw [← dCol]
  pointwise [val_main_v60, val_main_v59, val_main_cst_13]

theorem resW (j : Fin 3) : val_main_v88 (F := Ideal) up w b dh (ix2 j l)
    = arrW (fun r k => up (ix2 r k)) (fun r k => w (ix2 r k)) (fun k => b (ix2 0 k)) (fun r k => dh (ix2 r k)) j l := by
  unfold arrW dW
  rw [← dCol]
  fin_cases j
  · simp only [Fin.mk_zero, Fin.zero_eta, Fin.isValue, Fin.val_zero, Nat.sub_zero, ← later2]
    pointwise [val_main_v88, val_main_v87, val_main_v80, val_main_v79, val_main_v69, val_main_v65, val_main_v64, val_main_v63,
      val_main_cst_14, val_main_cst_16, val_main_cst_19, val_main_cst_21]
  · simp only [Fin.mk_one, Fin.isValue, Fin.val_one, Nat.reduceSub, ← later1]
    pointwise [val_main_v88, val_main_v87, val_main_v80, val_main_v79, val_main_v69, val_main_v74, val_main_v73, val_main_v72,
      val_main_cst_16, val_main_cst_17, val_main_cst_19, val_main_cst_21]
  · simp only [Fin.reduceFinMk, Fin.isValue, Fin.val_two, Nat.sub_self, prev_zero]
    pointwise [val_main_v88, val_main_v87, val_main_v80, val_main_v79, val_main_v69, val_main_v86, val_main_v85, val_main_v84, val_main_v0,
      val_main_cst_16, val_main_cst_19, val_main_cst_20, val_main_cst_21]

theorem closedA (i : S2048x3072.Idx) : val_main_v89 (F := Ideal) up w b dh i = arrA (fun r k => up (ix2 r k)) (fun r k => w (ix2 r k)) (fun k => b (ix2 0 k)) (fun r k => dh (ix2 r k)) (i 0) (i 1) := by
  idx_vars i
  exact resA up w b dh i0 i1

theorem closedG (i : S2048x3072.Idx) : val_main_v90 (F := Ideal) up w b dh i = arrG (fun r k => up (ix2 r k)) (fun r k => w (ix2 r k)) (fun k => b (ix2 0 k)) (fun r k => dh (ix2 r k)) (i 0) (i 1) := by
  idx_vars i
  exact resG up w b dh i0 i1

theorem closedW (i : S3x3072.Idx) : val_main_v88 (F := Ideal) up w b dh i = arrW (fun r k => up (ix2 r k)) (fun r k => w (ix2 r k)) (fun k => b (ix2 0 k)) (fun r k => dh (ix2 r k)) (i 0) (i 1) := by
  idx_vars i
  exact resW up w b dh i1 i0

theorem closedB (i : S1x3072.Idx) : val_main_v60 (F := Ideal) up w b dh i = arrB (fun r k => up (ix2 r k)) (fun r k => w (ix2 r k)) (fun k => b (ix2 0 k)) (fun r k => dh (ix2 r k)) (i 1) := by
  idx_vars i
  obtain rfl : i0 = 0 := Subsingleton.elim _ _
  exact resB up w b dh i1

end Cert.Reference8Ideal.Mid

end
-- ==== Proof.TailSpec.lean ====
/- The gradient at the end of the state-space branch, in plain mathematics. -/
module

public import proofs.«01_k».proof.Proof.MidSpec

@[expose] public section

noncomputable section

namespace Cert.Tail

open Idealize.ShloMosaic

variable (hc : Fin 2048 → Fin 512 → EReal) (z : Fin 2048 → Fin 7168 → EReal) (dgel : Fin 2048 → Fin 512 → EReal) (d : Fin 512 → EReal)

/-- The gradient of the unit's argument, which is the convolved state plus the input scaled by `d`. -/
def dArg (r : Fin 2048) (l : Fin 512) : EReal :=
  Mid.dGelu (@HAdd.hAdd EReal EReal EReal _ (hc r l) (d l * z r ⟨2048 + l.val, by omega⟩)) (dgel r l)

/-- The gradient of the input that is scaled by `d`. -/
def dIn (r : Fin 2048) (l : Fin 512) : EReal := d l * dArg hc z dgel d r l

/-- The gradient of the scale `d`. -/
def dScale (l : Fin 512) : EReal := ∑ r : Fin 2048, dArg hc z dgel d r l * z r ⟨2048 + l.val, by omega⟩

end Cert.Tail

end
-- ==== Proof.Tail.lean ====
/- The gradient at the end of the state-space branch: what each of the call's three output arrays holds. -/
module

public import proofs.«01_k».proof.Proof.Gen.Kernel10Ideal.Value
public import proofs.«01_k».proof.Proof.TailSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel10Ideal.Tail

open Cert.Tail
open Cert.Kernel10Ideal Cert.Kernel10Ideal.Gen Cert.Kernel10Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-! ## What a point computes -/

theorem pay_arg (hc su dgel : Vec Ideal S256x512 .f32) (d : Vec Ideal S1x512 .f32) (r : Fin 256) (l : Fin 512) :
    k0_pay3 (F := Ideal) hc su dgel d (ix2 r l)
      = Mid.dGelu (@HAdd.hAdd EReal EReal EReal _ (hc (ix2 r l)) (@HMul.hMul EReal EReal EReal _ (d (ix2 0 l)) (su (ix2 r l)))) (dgel (ix2 r l)) := by
  unfold k0_pay3 Mid.dGelu Mid.dInner Mid.half Mid.th
  pointwise

/-- What a point adds to the gradient of the scale. -/
def part (t : Fin cfg0.N) (y : S1x512.Idx) : EReal :=
  k0_pay1 (F := Ideal) (iblk m c 1 t) (k0_pay3 (iblk m c 0 t) (iblk m c 1 t) (iblk m c 2 t) (iblk m c 3 t)) y

theorem pt (t : Fin cfg0.N) : t.val < 8 := lt_of_lt_of_eq t.isLt N_0

theorem out_arg (t : Fin cfg0.N) :
    (outsAt0 m c t.val t.isLt).1 = k0_pay3 (F := Ideal) (iblk m c 0 t) (iblk m c 1 t) (iblk m c 2 t) (iblk m c 3 t) := by
  have ht := pt t
  by_cases h0 : t.val % 8 = 0
  · rw [outsAt0_A m c t h0 (by omega)]
    frame_out
  · rw [outsAt0_B m c t h0 (by omega)]
    frame_out

theorem out_in (t : Fin cfg0.N) :
    (outsAt0 m c t.val t.isLt).2.1 = k0_pay4 (F := Ideal) (iblk m c 0 t) (iblk m c 1 t) (iblk m c 2 t) (iblk m c 3 t) := by
  have ht := pt t
  by_cases h0 : t.val % 8 = 0
  · rw [outsAt0_A m c t h0 (by omega)]
    frame_out
  · rw [outsAt0_B m c t h0 (by omega)]
    frame_out

theorem acc_A (t : Fin cfg0.N) (h0 : t.val % 8 = 0) (y : S1x512.Idx) :
    (outsAt0 m c t.val t.isLt).2.2 y = @HAdd.hAdd EReal EReal EReal _ 0 (part m c t y) := by
  have ht := pt t
  rw [outsAt0_A m c t h0 (by omega), zero_add]
  unfold part
  frame_out

theorem acc_B (t : Fin cfg0.N) (h0 : ¬ t.val % 8 = 0) (y : S1x512.Idx) :
    (outsAt0 m c t.val t.isLt).2.2 y = @HAdd.hAdd EReal EReal EReal _
      ((outsAt0 m c (t.val - 1) (Nat.lt_of_le_of_lt (Nat.sub_le _ _) t.isLt)).2.2 y) (part m c t y) := by
  have ht := pt t
  rw [outsAt0_B m c t h0 (by omega)]
  unfold part
  frame_out
  unfold k0_pay2
  pointwise

/-! ## What the arrays hold at the end -/

/-- Which block of each array a point works on. -/
theorem idx : ∀ t : Fin cfg0.N, win0_0.index t = ![t.val, 0] ∧ win0_1.index t = ![t.val, 4] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The row of the arrays that row `r` of the blocks of point `t` is. -/
def row (t : Fin cfg0.N) (r : Fin 256) : Fin 2048 := ⟨t.val * 256 + r.val, by have ht := pt t; omega⟩

theorem in0 (t : Fin cfg0.N) (r : Fin 256) (l : Fin 512) :
    iblk m c 0 t (ix2 r l) = m ((c : Thread nD τ).loc main_arg0) (ix2 (row t r) l) := by blk_ext [iblk, V, idx t, row]
theorem in1 (t : Fin cfg0.N) (r : Fin 256) (l : Fin 512) :
    iblk m c 1 t (ix2 r l) = m ((c : Thread nD τ).loc main_arg1) (ix2 (row t r) ⟨2048 + l.val, by omega⟩) := by blk_ext [iblk, V, idx t, row]
theorem in2 (t : Fin cfg0.N) (r : Fin 256) (l : Fin 512) :
    iblk m c 2 t (ix2 r l) = m ((c : Thread nD τ).loc main_arg2) (ix2 (row t r) l) := by blk_ext [iblk, V, idx t, row]
theorem in3 (t : Fin cfg0.N) (l : Fin 512) :
    iblk m c 3 t (ix2 0 l) = m ((c : Thread nD τ).loc main_arg3) (ix2 0 l) := by blk_ext [iblk, V, idx t]

/-- The gradient of the unit's argument, for the arrays the call was launched on. -/
def arg (r : Fin 2048) (l : Fin 512) : EReal :=
  dArg (fun r k => m ((c : Thread nD τ).loc main_arg0) (ix2 r k)) (fun r k => m ((c : Thread nD τ).loc main_arg1) (ix2 r k))
    (fun r k => m ((c : Thread nD τ).loc main_arg2) (ix2 r k)) (fun k => m ((c : Thread nD τ).loc main_arg3) (ix2 0 k)) r l

/-- The gradient of the scale, for the arrays the call was launched on. -/
def scale (l : Fin 512) : EReal :=
  dScale (fun r k => m ((c : Thread nD τ).loc main_arg0) (ix2 r k)) (fun r k => m ((c : Thread nD τ).loc main_arg1) (ix2 r k))
    (fun r k => m ((c : Thread nD τ).loc main_arg2) (ix2 r k)) (fun k => m ((c : Thread nD τ).loc main_arg3) (ix2 0 k)) l

theorem arg_in (t : Fin cfg0.N) (r : Fin 256) (l : Fin 512) :
    k0_pay3 (F := Ideal) (iblk m c 0 t) (iblk m c 1 t) (iblk m c 2 t) (iblk m c 3 t) (ix2 r l) = arg m c (row t r) l := by
  rw [pay_arg, in0, in1, in2, in3]
  rfl

theorem out4 : (dats m 0 c).arrAt 4 cfg0.N = fun i => arg m c (i 0) (i 1) := by
  refine (dats m 0 c).arrAt_eq_of_covers 4 _ (by decide +kernel) fun t _ y => ?_
  blk_simp
  rw [after0_4, out_arg]
  idx_vars y
  have hi : ((View.whole main_v0_0).slice (win0_4.rect t)).emb (ix2 y0 y1) = ix2 (row t y0) y1 := by blk_ext [idx t, row]
  rw [hi]
  exact arg_in m c t y0 y1

theorem out5 : (dats m 0 c).arrAt 5 cfg0.N = fun i => @HMul.hMul EReal EReal EReal _ (m ((c : Thread nD τ).loc main_arg3) (ix2 0 (i 1))) (arg m c (i 0) (i 1)) := by
  refine (dats m 0 c).arrAt_eq_of_covers 5 _ (by decide +kernel) fun t _ y => ?_
  blk_simp
  rw [after0_5, out_in]
  idx_vars y
  have hi : ((View.whole main_v0_1).slice (win0_5.rect t)).emb (ix2 y0 y1) = ix2 (row t y0) y1 := by blk_ext [idx t, row]
  rw [hi]
  unfold k0_pay4
  pointwise
  rw [arg_in, in3]

theorem part_in (t : Fin cfg0.N) (l : Fin 512) :
    part m c t (ix2 0 l) = ∑ r : Fin 256, @HMul.hMul EReal EReal EReal _ (arg m c (row t r) l) (m ((c : Thread nD τ).loc main_arg1) (ix2 (row t r) ⟨2048 + l.val, by omega⟩)) := by
  unfold part k0_pay1
  pointwise
  refine Finset.sum_congr rfl fun r _ => ?_
  rw [arg_in, in1]

theorem total (t : Fin cfg0.N) (ht : t.val + 1 = cfg0.N) (l : Fin 512) : (outsAt0 m c t.val t.isLt).2.2 (ix2 0 l) = scale m c l := by
  have h := Pipeline.eq_sum_fin_of_reset_step_apply_last (fun n h => (outsAt0 m c n h).2.2) 8 (fun _ => 0)
    (fun t y => part m c t y) (acc_A m c) (acc_B m c) (le_of_eq N_0) t ht (ix2 0 l)
  refine h.trans ?_
  rw [zero_add]
  simp only [part_in]
  exact Fin.sum_mul_add_congr (S := cfg0.N) (n := 256) (fun s k hl => rfl) (by rw [show cfg0.N = 8 from N_0])

theorem out6 : (dats m 0 c).arrAt 6 cfg0.N = fun i => scale m c (i 1) := by
  refine (dats m 0 c).arrAt_eq_of_covers 6 _ (by decide +kernel) fun t hf y => ?_
  have ht : t.val + 1 = cfg0.N := by revert hf; revert t; decide +kernel
  blk_simp
  rw [after0_6]
  idx_vars y
  obtain rfl : y0 = 0 := Subsingleton.elim _ _
  have hi : ((View.whole main_v0_2).slice (win0_6.rect t)).emb (ix2 0 y1) = ix2 0 y1 := by blk_ext [idx t]
  rw [hi]
  exact total m c t ht y1

end Cert.Kernel10Ideal.Tail

end
-- ==== Proof.TailRef.lean ====
/- The reference of the gradient at the end of the state-space branch: each of its three results, index by index. -/
module

public import proofs.«01_k».proof.Proof.Gen.Reference10Ideal.Read
public import proofs.«01_k».proof.Proof.TailSpec
public import Idealize.ShloMosaic.Lib.Pointwise

@[expose] public section

set_option maxRecDepth 16384

noncomputable section

namespace Cert.Reference10Ideal.Tail

open Cert.Tail
open Cert.Reference10Ideal Cert.Reference10Ideal.Gen Cert.Reference10Ideal.Read Idealize.ShloMosaic Idealize.ShloMosaic.TcCoe

variable (hc : (⟨S2048x512, .f32⟩ : BufTy).Contents (Elt Ideal)) (z : (⟨S2048x7168, .f32⟩ : BufTy).Contents (Elt Ideal))
  (dgel : (⟨S2048x512, .f32⟩ : BufTy).Contents (Elt Ideal)) (d : (⟨S1x512, .f32⟩ : BufTy).Contents (Elt Ideal)) (r : Fin 2048) (l : Fin 512)

theorem arg_eq : val_main_v3 (F := Ideal) hc z d (ix2 r l)
    = @HAdd.hAdd EReal EReal EReal _ (hc (ix2 r l)) (@HMul.hMul EReal EReal EReal _ (d (ix2 0 l)) (z (ix2 r ⟨2048 + l.val, by omega⟩))) := by
  pointwise [val_main_v3, val_main_v2, val_main_v1, val_main_v0]

theorem resArg : val_main_v36 (F := Ideal) hc z dgel d (ix2 r l) = dArg (fun r k => hc (ix2 r k)) (fun r k => z (ix2 r k)) (fun r k => dgel (ix2 r k)) (fun k => d (ix2 0 k)) r l := by
  unfold dArg
  rw [← arg_eq]
  unfold Mid.dGelu Mid.dInner Mid.half Mid.th
  pointwise [val_main_v36, val_main_v35, val_main_v34, val_main_v33, val_main_v32, val_main_v31, val_main_v30, val_main_v29, val_main_v28, val_main_v27, val_main_v26, val_main_v25,
    val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4,
    val_main_cst_8, val_main_cst_7, val_main_cst_6, val_main_cst_5, val_main_cst_4, val_main_cst_3, val_main_cst_2, val_main_cst_1, val_main_cst_0, val_main_cst]
  rw [mul_comm (_ * _) (val_main_v3 (F := Ideal) hc z d (ix2 r l))]

theorem closedArg (i : S2048x512.Idx) : val_main_v36 (F := Ideal) hc z dgel d i = dArg (fun r k => hc (ix2 r k)) (fun r k => z (ix2 r k)) (fun r k => dgel (ix2 r k)) (fun k => d (ix2 0 k)) (i 0) (i 1) := by
  idx_vars i
  exact resArg hc z dgel d i0 i1

theorem closedIn (i : S2048x512.Idx) : val_main_v38 (F := Ideal) hc z dgel d i = dIn (fun r k => hc (ix2 r k)) (fun r k => z (ix2 r k)) (fun r k => dgel (ix2 r k)) (fun k => d (ix2 0 k)) (i 0) (i 1) := by
  idx_vars i
  refine Eq.trans ?_ (congrArg (fun x : EReal => @HMul.hMul EReal EReal EReal _ (d (ix2 0 i1)) x) (resArg hc z dgel d i0 i1))
  pointwise [val_main_v38, val_main_v37]

theorem closedScale (i : S1x512.Idx) : val_main_v41 (F := Ideal) hc z dgel d i = dScale (fun r k => hc (ix2 r k)) (fun r k => z (ix2 r k)) (fun r k => dgel (ix2 r k)) (fun k => d (ix2 0 k)) (i 1) := by
  idx_vars i
  obtain rfl : i0 = 0 := Subsingleton.elim _ _
  refine Eq.trans ?_ (Finset.sum_congr rfl fun r _ => congrArg (fun x : EReal => @HMul.hMul EReal EReal EReal _ x (z (ix2 r ⟨2048 + i1.val, by omega⟩))) (resArg hc z dgel d r i1))
  pointwise [val_main_v41, val_main_v40, val_main_v39, val_main_v0, val_main_cst_9]

end Cert.Reference10Ideal.Tail

end
-- ==== Proof.GateValues.lean ====
/- Programs 8 to 10: the gradients of the middle of the feed-forward part, of the merge and of the end of the state-space branch, each kernel against its reference. -/
module

public import proofs.«01_k».proof.Defs
public import proofs.«01_k».proof.Proof.Merge
public import proofs.«01_k».proof.Proof.MergeRef
public import proofs.«01_k».proof.Proof.Mid
public import proofs.«01_k».proof.Proof.MidRef
public import proofs.«01_k».proof.Proof.Tail
public import proofs.«01_k».proof.Proof.TailRef
public import proofs.«01_k».proof.Proof.Gen.Reference8Ideal.Run
public import proofs.«01_k».proof.Proof.Gen.Reference9Ideal.Run
public import proofs.«01_k».proof.Proof.Gen.Reference10Ideal.Run
public import Idealize.ShloMosaic.Adequacy
public import Idealize.ShloMosaic.Init

@[expose] public section

noncomputable section

namespace Cert.Proof

open Idealize.ShloMosaic Idealize.ShloMosaic.TcCoe Idealize.SL.Sem

/-- The reference of program 8 leaves its arguments as they were, and has no semaphore. -/
theorem ref_frame8 [Cert.Reference8Ideal.Facts] : Cert.quiescent_Reference8Ideal :=
  fun m g _ => (θ_run _ _ _).mono (fun r h => ⟨fun c => (h c).2.2.2.2, sem_eq_zero_of_no_sems (by decide) r.2⟩) (Cert.Reference8Ideal.Value.run m g)

/-- Program 8, the gradient of the middle of the feed-forward part, and its reference compute the same arrays. -/
theorem value8 [Cert.Kernel8Ideal.Facts] [Cert.Reference8Ideal.Facts] : Cert.algebraic_Kernel8Ideal_Reference8Ideal := by
  intro m g m' g' _ hagree
  refine ⟨_, _, _, _, Cert.Kernel8Ideal.Value.run_blocks m g, ?_⟩
  refine (θ_run _ _ _).mono (fun r h c => ⟨(h c).1.trans ?_, (h c).2.1.trans ?_, (h c).2.2.1.trans ?_, (h c).2.2.2.1.trans ?_, (h c).2.2.2.2⟩) (Cert.Reference8Ideal.Value.run m' g')
  all_goals obtain ⟨a0, a1, a2, a3⟩ := hagree c
  · refine (Cert.Reference8Ideal.Read.val_main_v89_eq _).trans (funext fun i => ?_)
    refine (Cert.Reference8Ideal.Mid.closedA _ _ _ _ i).trans ((congrFun (Cert.Kernel8Ideal.Mid.out5 m c) i).trans ?_).symm
    rw [← a0, ← a1, ← a2, ← a3]
  · refine (Cert.Reference8Ideal.Read.val_main_v90_eq _).trans (funext fun i => ?_)
    refine (Cert.Reference8Ideal.Mid.closedG _ _ _ _ i).trans ((congrFun (Cert.Kernel8Ideal.Mid.out6 m c) i).trans ?_).symm
    rw [← a0, ← a1, ← a2, ← a3]
  · refine (Cert.Reference8Ideal.Read.val_main_v88_eq _).trans (funext fun i => ?_)
    refine (Cert.Reference8Ideal.Mid.closedW _ _ _ _ i).trans ((congrFun (Cert.Kernel8Ideal.Mid.out7 m c) i).trans ?_).symm
    rw [← a0, ← a1, ← a2, ← a3]
  · refine (Cert.Reference8Ideal.Read.val_main_v60_eq _).trans (funext fun i => ?_)
    refine (Cert.Reference8Ideal.Mid.closedB _ _ _ _ i).trans ((congrFun (Cert.Kernel8Ideal.Mid.out8 m c) i).trans ?_).symm
    rw [← a0, ← a1, ← a2, ← a3]

/-- The reference of program 9 leaves its arguments as they were, and has no semaphore. -/
theorem ref_frame9 [Cert.Reference9Ideal.Facts] : Cert.quiescent_Reference9Ideal :=
  fun m g _ => (θ_run _ _ _).mono (fun r h => ⟨fun c => (h c).2.2.2.2.2.2, sem_eq_zero_of_no_sems (by decide) r.2⟩) (Cert.Reference9Ideal.Value.run m g)

/-- Program 9, the gradient of the merge, and its reference compute the same arrays. -/
theorem value9 [Cert.Kernel9Ideal.Facts] [Cert.Reference9Ideal.Facts] : Cert.algebraic_Kernel9Ideal_Reference9Ideal := by
  intro m g m' g' _ hagree
  refine ⟨_, _, _, _, _, _, Cert.Kernel9Ideal.Value.run_blocks m g, ?_⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference9Ideal.Value.run m' g')
  all_goals obtain ⟨a0, a1, a2, a3, a4⟩ := hagree c
  · rw [a0, a1, a4]
    refine (Cert.Reference9Ideal.Read.val_main_v57_eq _ _ _).trans (funext fun i => ?_)
    exact (Cert.Reference9Ideal.Merge.closed0 _ _ _ i).trans (congrFun (Cert.Kernel9Ideal.Merge.out7 m c) i).symm
  · rw [a0, a2, a4]
    refine (Cert.Reference9Ideal.Read.val_main_v54_eq _ _ _).trans (funext fun i => ?_)
    exact (Cert.Reference9Ideal.Merge.closed1 _ _ _ i).trans (congrFun (Cert.Kernel9Ideal.Merge.out8 m c) i).symm
  · rw [a0, a3, a4]
    refine (Cert.Reference9Ideal.Read.val_main_v51_eq _ _ _).trans (funext fun i => ?_)
    exact (Cert.Reference9Ideal.Merge.closed2 _ _ _ i).trans (congrFun (Cert.Kernel9Ideal.Merge.out9 m c) i).symm
  · rw [a0, a4]
    refine (Cert.Reference9Ideal.Read.val_main_v55_eq _ _).trans (funext fun i => ?_)
    exact (Cert.Reference9Ideal.Merge.closed3 _ _ i).trans (congrFun (Cert.Kernel9Ideal.Merge.out10 m c) i).symm
  · rw [a0, a2, a4]
    refine (Cert.Reference9Ideal.Read.val_main_v61_eq _ _ _).trans (funext fun i => ?_)
    exact (Cert.Reference9Ideal.Merge.closed4 _ _ _ i).trans (congrFun (Cert.Kernel9Ideal.Merge.out11 m c) i).symm
  · rw [a0, a4]
    refine (Cert.Reference9Ideal.Read.val_main_v49_eq _ _).trans (funext fun i => ?_)
    exact (Cert.Reference9Ideal.Merge.closed5 _ _ i).trans (congrFun (Cert.Kernel9Ideal.Merge.out12 m c) i).symm

/-- The reference of program 10 leaves its arguments as they were, and has no semaphore. -/
theorem ref_frame10 [Cert.Reference10Ideal.Facts] : Cert.quiescent_Reference10Ideal :=
  fun m g _ => (θ_run _ _ _).mono (fun r h => ⟨fun c => (h c).2.2.2, sem_eq_zero_of_no_sems (by decide) r.2⟩) (Cert.Reference10Ideal.Value.run m g)

/-- Program 10, the gradient at the end of the state-space branch, and its reference compute the same arrays. -/
theorem value10 [Cert.Kernel10Ideal.Facts] [Cert.Reference10Ideal.Facts] : Cert.algebraic_Kernel10Ideal_Reference10Ideal := by
  intro m g m' g' _ hagree
  refine ⟨_, _, _, Cert.Kernel10Ideal.Value.run_blocks m g, ?_⟩
  refine (θ_run _ _ _).mono (fun r h c => ⟨(h c).1.trans ?_, (h c).2.1.trans ?_, (h c).2.2.1.trans ?_, (h c).2.2.2⟩) (Cert.Reference10Ideal.Value.run m' g')
  all_goals obtain ⟨a0, a1, a2, a3⟩ := hagree c
  · refine (Cert.Reference10Ideal.Read.val_main_v36_eq m' c).trans (funext fun i => ?_)
    rw [a0, a1, a2, a3]
    exact (Cert.Reference10Ideal.Tail.closedArg _ _ _ _ i).trans (congrFun (Cert.Kernel10Ideal.Tail.out4 m c) i).symm
  · refine (Cert.Reference10Ideal.Read.val_main_v38_eq m' c).trans (funext fun i => ?_)
    rw [a0, a1, a2, a3]
    exact (Cert.Reference10Ideal.Tail.closedIn _ _ _ _ i).trans (congrFun (Cert.Kernel10Ideal.Tail.out5 m c) i).symm
  · refine (Cert.Reference10Ideal.Read.val_main_v41_eq m' c).trans (funext fun i => ?_)
    rw [a0, a1, a2, a3]
    exact (Cert.Reference10Ideal.Tail.closedScale _ _ _ _ i).trans (congrFun (Cert.Kernel10Ideal.Tail.out6 m c) i).symm

end Cert.Proof

end
-- ==== Proof.Soft.lean ====
/- The softmax over one row of scores and its gradient, over the extended reals. A row may hold −∞ (a masked entry) but not +∞, and not
   −∞ everywhere; what the probabilities multiply (the values, the gradient arriving from above) may be infinite, because the probabilities are
   real numbers that are not negative and such a factor moves through any sum of extended reals. -/
module

public import Idealize.ShloMosaic.PureOps.Ideal
public import Idealize.ShloMosaic.PureOps.Ideal.Laws
public import Idealize.ShloMosaic.Lib.IdealHost

@[expose] public section

noncomputable section

namespace Cert.Soft

open Idealize.ShloMosaic

/-- A real factor that is not negative moves through a sum of any extended reals. -/
theorem sum_mul {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

theorem mul_sum {ι : Type} (s : Finset ι) (f : ι → EReal) {c : ℝ} (hc : 0 ≤ c) : (c : EReal) * (∑ i ∈ s, f i) = ∑ i ∈ s, (c : EReal) * f i := by
  rw [mul_comm, sum_mul s f hc]
  exact Finset.sum_congr rfl fun i _ => mul_comm _ _

/-- A sum of finite extended reals is finite. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := h a (Finset.mem_insert_self a s)
    obtain ⟨r', hr'⟩ := ih fun i hi => h i (Finset.mem_insert_of_mem hi)
    exact ⟨r + r', by rw [Finset.sum_insert ha, hr, hr', EReal.coe_add]⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word a maximum starts from is −∞. -/
theorem ninf : Ideal.ofBits .f32 0xFF800000#32 = ⊥ := by simp [Ideal.ofBits, Ideal.ieee]

theorem pinf : Ideal.ofBits .f32 0x7F800000#32 = ⊤ := by simp [Ideal.ofBits, Ideal.ieee]

/-- The two words of one sixteenth. -/
theorem sixteenth_f32 : Ideal.ofBits .f32 0x3D800000#32 = (((1 : ℝ) / 16 : ℝ) : EReal) := by
  simp [Ideal.ofBits, Ideal.ieee, -EReal.coe_mul]; norm_num

variable {n : ℕ} (s : Fin n → EReal)

/-- The greatest score of the row. -/
def top : EReal := Finset.univ.fold max (Ideal.ofBits .f32 0xFF800000#32) s

/-- A score's weight, the exponential of its distance from the greatest. -/
def wt (j : Fin n) : EReal := Ideal.exp (s j - top s)

/-- The sum of the weights. -/
def den : EReal := ∑ j, wt s j

/-- The logarithm of the sum of the scores' exponentials. -/
def lse : EReal := top s + Ideal.log (den s)

/-- The probability of an entry. -/
def prob (j : Fin n) : EReal := Ideal.div (wt s j) (den s)

/-- A row with no +∞ and something other than −∞. -/
def Good : Prop := (∀ j, s j ≠ ⊤) ∧ ∃ j, s j ≠ ⊥

variable {s}

theorem top_eq : top s = Finset.univ.sup s := by rw [top, ninf]; rfl

/-- The row's numbers are real: the greatest score, the weights (not negative), their sum (positive). -/
theorem Good.real (h : Good s) : ∃ (M : ℝ) (e : Fin n → ℝ) (L : ℝ), top s = M ∧ (∀ j, wt s j = e j) ∧ den s = L ∧ (∀ j, 0 ≤ e j) ∧ 0 < L := by
  obtain ⟨ht, j0, hj0⟩ := h
  have hM : ∃ j, top s = s j := by
    rw [top_eq]
    obtain ⟨j, -, hj⟩ := Finset.exists_mem_eq_sup (Finset.univ : Finset (Fin n)) ⟨j0, Finset.mem_univ _⟩ s
    exact ⟨j, hj⟩
  obtain ⟨j1, hj1⟩ := hM
  have hle : ∀ j, s j ≤ s j1 := fun j => by rw [← hj1, top_eq]; exact Finset.le_sup (Finset.mem_univ j)
  have hb : s j1 ≠ ⊥ := fun hb => hj0 (le_bot_iff.mp (hb ▸ hle j0))
  obtain ⟨M, hM⟩ : ∃ M : ℝ, s j1 = M := ⟨(s j1).toReal, (EReal.coe_toReal (ht j1) hb).symm⟩
  have hw : ∀ j, ∃ r : ℝ, wt s j = r ∧ 0 ≤ r := fun j => by
    unfold wt
    rw [hj1, hM]
    have h1 := ht j
    induction hs : s j using EReal.rec with
    | bot => exact ⟨0, by simp, le_rfl⟩
    | coe r => exact ⟨Real.exp (r - M), by rw [← EReal.coe_sub, Ideal.exp_coe], (Real.exp_pos _).le⟩
    | top => exact absurd hs h1
  choose e he h0 using hw
  refine ⟨M, e, ∑ j, e j, by rw [hj1, hM], he, ?_, h0, ?_⟩
  · rw [den, coe_sum]
    exact Finset.sum_congr rfl fun j _ => he j
  · refine Finset.sum_pos' (fun j _ => h0 j) ⟨j1, Finset.mem_univ _, ?_⟩
    have : (e j1 : EReal) = 1 := by
      rw [← he j1, wt, hj1, hM, ← EReal.coe_sub, sub_self, Ideal.exp_coe, Real.exp_zero, EReal.coe_one]
    have : e j1 = 1 := by exact_mod_cast this
    rw [this]; exact one_pos

/-- The probabilities are real numbers that are not negative. -/
theorem Good.prob_real (h : Good s) (j : Fin n) : ∃ r : ℝ, 0 ≤ r ∧ prob s j = r := by
  obtain ⟨M, e, L, -, he, hL, h0, hp⟩ := h.real
  exact ⟨e j * (1 / L), mul_nonneg (h0 j) (by positivity), by rw [prob, he, hL, Ideal.div_coe hp.ne', EReal.coe_mul]⟩

/-- The weight times the reciprocal of the sum is the probability. -/
theorem Good.wt_mul (h : Good s) (j : Fin n) : wt s j * Ideal.div 1 (den s) = prob s j := by
  obtain ⟨M, e, L, -, he, hL, h0, hp⟩ := h.real
  rw [prob, hL, Ideal.div_coe hp.ne', Ideal.div_coe hp.ne', one_mul]

/-- The exponential of a score's distance from the logarithm of the sum is the probability. -/
theorem Good.exp_lse (h : Good s) (j : Fin n) : Ideal.exp (s j - lse s) = prob s j := by
  have ht := h.1 j
  obtain ⟨M, e, L, hM, he, hL, h0, hp⟩ := h.real
  rw [prob, lse, hL, hM, Ideal.div_coe hp.ne', wt, hM, Ideal.log_coe, if_neg (not_le.mpr hp), ← EReal.coe_add]
  induction hs : s j using EReal.rec with
  | bot => simp
  | coe r =>
    rw [← EReal.coe_sub, ← EReal.coe_sub, Ideal.exp_coe, Ideal.exp_coe, ← EReal.coe_mul, ← sub_sub, Real.exp_sub, Real.exp_log hp]
    congr 1; ring
  | top => exact absurd hs ht

/-- The gradient of a score: the kernel's form, and the derivative as the reference computes it from the weights and their sum. -/
theorem Good.grad (h : Good s) (dp : Fin n → EReal) (j : Fin n) :
    prob s j * (dp j - ∑ k, dp k * prob s k)
      = (Ideal.div (dp j) (den s) + -∑ k, dp k * Ideal.div 1 (den s * den s) * wt s k) * wt s j := by
  obtain ⟨M, e, L, -, he, hL, h0, hp⟩ := h.real
  have hi : 0 ≤ 1 / L := by positivity
  have hsum : ∑ k, dp k * Ideal.div 1 (den s * den s) * wt s k = (∑ k, dp k * prob s k) * ((1 / L : ℝ) : EReal) := by
    rw [sum_mul _ _ hi]
    refine Finset.sum_congr rfl fun k _ => ?_
    rw [prob, he, hL, ← EReal.coe_mul, Ideal.div_coe (mul_pos hp hp).ne', Ideal.div_coe hp.ne', one_mul, mul_assoc, mul_assoc, ← EReal.coe_mul,
      ← EReal.coe_mul, ← EReal.coe_mul]
    congr 2; field_simp
  rw [hsum, ← EReal.neg_mul, hL, Ideal.div_coe hp.ne', ← EReal.right_distrib_of_nonneg_of_ne_top (EReal.coe_nonneg.mpr hi) (EReal.coe_ne_top _),
    prob, he, hL, Ideal.div_coe hp.ne', sub_eq_add_neg]
  ac_rfl

end Cert.Soft

end
-- ==== Proof.NormSpec.lean ====
/- The gradient of a layer norm, in plain mathematics, and the two ways of writing it, which agree where the gradient handed in is finite. -/
module

public import proofs.«01_k».proof.Proof.Soft

@[expose] public section

noncomputable section

namespace Cert.Norm

open Idealize.ShloMosaic

/-- The number of entries of a row, as a word. -/
def cnt : EReal := Ideal.ofBits .f32 0x44800000#32

/-- The small number added to the variance, as a word. -/
def eps : EReal := Ideal.ofBits .f32 0x3727C5AC#32

/-- The mean of a row. -/
def mean (a : Fin 1024 → EReal) : EReal := Ideal.div (∑ k, a k) cnt

/-- An entry's distance from the mean. -/
def dev (a : Fin 1024 → EReal) (k : Fin 1024) : EReal := @HSub.hSub EReal EReal EReal _ (a k) (mean a)

/-- The variance of a row, with the small number added. -/
def spread (a : Fin 1024 → EReal) : EReal := mean (fun k => dev a k * dev a k) + eps

/-- An entry of the normalized row. -/
def xhat (a : Fin 1024 → EReal) (k : Fin 1024) : EReal := dev a k * Ideal.rsqrt (spread a)

/-- The gradient of a row, where `u` is the gradient of the normalized row. -/
def dRow (a u : Fin 1024 → EReal) (k : Fin 1024) : EReal :=
  Ideal.rsqrt (spread a) * ((@HSub.hSub EReal EReal EReal _ (u k) (mean u)) - xhat a k * mean (fun j => u j * xhat a j))

/-- The gradient of the variance. -/
def dVar (a u : Fin 1024 → EReal) : EReal :=
  Ideal.div ((∑ j, dev a j * u j) * (Ideal.ofBits .f32 0xBF000000#32 * Ideal.div (Ideal.rsqrt (spread a)) (spread a))) cnt

/-- The part of the gradient that comes through the variance. -/
def thruVar (a u : Fin 1024 → EReal) (k : Fin 1024) : EReal := dVar a u * (Ideal.ofBits .f32 0x40000000#32 * dev a k)

/-- The gradient of a row, by the chain rule through the mean and the variance. -/
def chain (a u : Fin 1024 → EReal) (k : Fin 1024) : EReal :=
  (u k * Ideal.rsqrt (spread a) + thruVar a u k)
    + Ideal.div ((∑ j, -(@HMul.hMul EReal EReal EReal _ (u j) (Ideal.rsqrt (spread a)))) + ∑ j, -(thruVar a u j)) cnt

/-- The gradient of the scale: a column's sum of the gradient times the normalized entries. -/
def dGain (r dy : Fin 2048 → Fin 1024 → EReal) (l : Fin 1024) : EReal := ∑ i, dy i l * xhat (r i) l

/-- The gradient of the shift: a column's sum of the gradient. -/
def dShift (dy : Fin 2048 → Fin 1024 → EReal) (l : Fin 1024) : EReal := ∑ i, dy i l

/-! ## The two ways agree -/

theorem cnt_eq : cnt = ((1024 : ℝ) : EReal) := by
  simp [cnt, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul]; norm_num

theorem eps_eq : ∃ e : ℝ, 0 < e ∧ eps = (e : EReal) := by
  refine ⟨10995116 * (2 : ℝ) ^ (-40 : ℤ), by positivity, ?_⟩
  simp [eps, Ideal.ofBits, Ideal.ieee, -EReal.coe_mul]

theorem mean_coe (x : Fin 1024 → ℝ) : mean (fun k => (x k : EReal)) = (((∑ k, x k) * (1 / 1024) : ℝ) : EReal) := by
  unfold mean
  rw [cnt_eq, Ideal.div_coe (by norm_num), ← Soft.coe_sum, ← EReal.coe_mul]

/-- The identity among real numbers: `d` the distances from the mean, `s` the inverse root of `w`. -/
theorem real_eq (d y : Fin 1024 → ℝ) (s w : ℝ) (hd : ∑ j, d j = 0) (hs : 1 / w = s * s) (k : Fin 1024) :
    (y k * s + (∑ j, d j * y j) * (-(1 / 2) * (s * (1 / w))) * (1 / 1024) * (2 * d k))
      + ((∑ j, -(y j * s)) + ∑ j, -((∑ j, d j * y j) * (-(1 / 2) * (s * (1 / w))) * (1 / 1024) * (2 * d j))) * (1 / 1024)
    = s * ((y k - (∑ j, y j) * (1 / 1024)) - d k * s * ((∑ j, y j * (d j * s)) * (1 / 1024))) := by
  have h1 : ∑ j, -(y j * s) = -((∑ j, y j) * s) := by rw [Finset.sum_neg_distrib, ← Finset.sum_mul]
  have h2 : ∀ q : ℝ, ∑ j, -(q * (2 * d j)) = 0 := fun q => by
    rw [Finset.sum_neg_distrib, ← Finset.mul_sum, ← Finset.mul_sum, hd]; ring
  have h3 : ∑ j, y j * (d j * s) = (∑ j, d j * y j) * s := by
    rw [Finset.sum_mul]; exact Finset.sum_congr rfl fun j _ => by ring
  rw [h1, h2, h3, hs]
  ring

/-- Two terms of a real sum are real. -/
theorem real_of_add (x y : EReal) (h : ∃ r : ℝ, x + y = r) : (∃ r : ℝ, x = r) ∧ ∃ r : ℝ, y = r := by
  obtain ⟨r, h⟩ := h
  induction x with
  | bot => rw [EReal.bot_add] at h; exact absurd h.symm (EReal.coe_ne_bot r)
  | coe x =>
    induction y with
    | bot => rw [EReal.add_bot] at h; exact absurd h.symm (EReal.coe_ne_bot r)
    | coe y => exact ⟨⟨x, rfl⟩, y, rfl⟩
    | top => rw [EReal.coe_add_top] at h; exact absurd h.symm (EReal.coe_ne_top r)
  | top =>
    induction y with
    | bot => rw [EReal.add_bot] at h; exact absurd h.symm (EReal.coe_ne_bot r)
    | coe y => rw [EReal.top_add_coe] at h; exact absurd h.symm (EReal.coe_ne_top r)
    | top => rw [EReal.top_add_top] at h; exact absurd h.symm (EReal.coe_ne_top r)

/-- The terms of a real sum are real. -/
theorem real_of_sum {ι : Type} (s : Finset ι) (f : ι → EReal) (h : ∃ r : ℝ, ∑ i ∈ s, f i = r) : ∀ i ∈ s, ∃ r : ℝ, f i = r := by
  classical
  induction s using Finset.induction_on with
  | empty => intro i hi; exact absurd hi (Finset.notMem_empty i)
  | insert b s hb ih =>
    rw [Finset.sum_insert hb] at h
    obtain ⟨h1, h2⟩ := real_of_add _ _ h
    intro i hi
    rcases Finset.mem_insert.mp hi with rfl | hi
    · exact h1
    · exact ih h2 i hi

theorem mean_top : mean (fun _ => ⊤) = ⊤ := by
  have h : (∑ k : Fin 1024, (⊤ : EReal)) = ⊤ := by
    have h0 : (0 : EReal) ≤ ∑ k : Fin 1023, (⊤ : EReal) := Finset.sum_nonneg fun _ _ => le_top
    rw [Fin.sum_univ_succ]
    exact EReal.top_add_of_ne_bot fun hb => by rw [hb] at h0; simp at h0
  unfold mean
  rw [h, cnt_eq, Ideal.div_coe (by norm_num), EReal.top_mul_coe_of_pos (by norm_num)]

/-- The variance of a row with an infinite entry is infinite. -/
theorem spread_inf (a : Fin 1024 → EReal) (ha : ¬ ∀ k, ∃ x : ℝ, a k = x) : spread a = ⊤ := by
  have hm : mean a = ⊤ ∨ mean a = ⊥ := by
    unfold mean
    rw [cnt_eq, Ideal.div_coe (by norm_num)]
    have hs : ¬ ∃ r : ℝ, ∑ k, a k = r := fun h => ha fun k => real_of_sum _ _ h k (Finset.mem_univ _)
    generalize (∑ k, a k) = z at hs
    induction z with
    | bot => exact Or.inr (EReal.bot_mul_coe_of_pos (by norm_num))
    | coe z => exact absurd ⟨z, rfl⟩ hs
    | top => exact Or.inl (EReal.top_mul_coe_of_pos (by norm_num))
  have hd : ∀ j, dev a j * dev a j = ⊤ := by
    intro j
    unfold dev
    rcases hm with h | h <;> rw [h] <;> generalize a j = z <;> induction z <;> simp
  obtain ⟨e, he, hee⟩ := eps_eq
  unfold spread
  simp only [hd]
  rw [mean_top, hee, EReal.top_add_coe]

/-- A row with an infinite entry has gradient zero, either way. -/
theorem chain_inf (a u : Fin 1024 → EReal) (ha : ¬ ∀ k, ∃ x : ℝ, a k = x) (k : Fin 1024) : chain a u k = dRow a u k := by
  have h0 : ∀ y : EReal, y ≠ 0 → Ideal.div 0 y = 0 := fun y hy => by rw [Ideal.div, if_neg hy, zero_mul]
  have hc : cnt ≠ 0 := by rw [cnt_eq]; exact_mod_cast (by norm_num : (1024 : ℝ) ≠ 0)
  have ht : Ideal.rsqrt ⊤ = 0 := rfl
  unfold chain dRow thruVar dVar
  simp only [spread_inf a ha, ht, h0 ⊤ (by simp), h0 cnt hc, mul_zero, zero_mul, neg_zero, Finset.sum_const_zero, add_zero]

/-- Where the gradient of the normalized row is finite, the chain rule gives the gradient of the row. -/
theorem chain_eq (a u : Fin 1024 → EReal) (hu : ∀ k, ∃ y : ℝ, u k = y) (k : Fin 1024) : chain a u k = dRow a u k := by
  by_cases ha : ∀ k, ∃ x : ℝ, a k = x
  swap
  · exact chain_inf a u ha k
  choose x hx using ha
  choose y hy using hu
  obtain rfl : a = fun k => (x k : EReal) := funext hx
  obtain rfl : u = fun k => (y k : EReal) := funext hy
  obtain ⟨e, he, hee⟩ := eps_eq
  have hdev : dev (fun k => (x k : EReal)) = fun k => ((x k - (∑ j, x j) * (1 / 1024) : ℝ) : EReal) := by
    funext j; unfold dev; rw [mean_coe, ← EReal.coe_sub]
  obtain ⟨d, hd⟩ : ∃ d : Fin 1024 → ℝ, d = fun k => x k - (∑ j, x j) * (1 / 1024) := ⟨_, rfl⟩
  have hdd : dev (fun k => (x k : EReal)) = fun k => (d k : EReal) := by rw [hdev, hd]
  have hd0 : ∑ j, d j = 0 := by
    rw [hd, Finset.sum_sub_distrib, Finset.sum_const, Finset.card_univ, Fintype.card_fin, nsmul_eq_mul]
    push_cast
    ring
  have hw : ∃ w : ℝ, 0 < w ∧ spread (fun k => (x k : EReal)) = (w : EReal) := by
    refine ⟨(∑ j, d j * d j) * (1 / 1024) + e, ?_, ?_⟩
    · have : 0 ≤ ∑ j, d j * d j := Finset.sum_nonneg fun j _ => mul_self_nonneg _
      positivity
    · unfold spread
      simp only [hdd, ← EReal.coe_mul]
      rw [mean_coe, hee, ← EReal.coe_add]
  obtain ⟨w, hw0, hw⟩ := hw
  have hr : Ideal.rsqrt (w : EReal) = (((Real.sqrt w)⁻¹ : ℝ) : EReal) := by
    rw [Ideal.rsqrt_coe, if_neg (not_lt.mpr hw0.le), if_neg hw0.ne']
  have hs : 1 / w = (Real.sqrt w)⁻¹ * (Real.sqrt w)⁻¹ := by
    rw [← mul_inv, Real.mul_self_sqrt hw0.le, one_div]
  unfold chain dRow thruVar dVar xhat
  simp only [hw, hdd, hr, mean_coe, cnt_eq, two_eq, neg_half_eq, Ideal.div_coe hw0.ne', Ideal.div_coe (show (1024 : ℝ) ≠ 0 by norm_num),
    ← EReal.coe_mul, ← EReal.coe_neg, ← EReal.coe_add, ← EReal.coe_sub, ← Soft.coe_sum]
  exact congrArg _ (real_eq d y _ w hd0 hs k)

end Cert.Norm

end
-- ==== Proof.Norm.lean ====
/- The gradient of a layer norm: what each of the call's three output arrays holds. -/
module

public import proofs.«01_k».proof.Proof.Gen.Kernel11Ideal.Value
public import proofs.«01_k».proof.Proof.NormSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Norm

open Cert.Norm
open Cert.Kernel11Ideal Cert.Kernel11Ideal.Gen Cert.Kernel11Ideal.Value Idealize.ShloMosaic Idealize.ShloMosaic.TcCoe Idealize.SL.Sem
open Idealize.ShloMosaic.Pipeline (Dat)

variable (m : (ℓ : Loc nD τ sig) → Buf (Elt Ideal) ℓ) (c : Dev nD)

/-! ## What a point computes -/

theorem pay_mean (a : Vec Ideal S512x1024 .f32) (r : Fin 512) :
    k0_pay5 (F := Ideal) a (ix2 r 0) = mean (fun k => a (ix2 r k)) := by
  unfold k0_pay5 mean cnt
  pointwise

theorem pay_var (a : Vec Ideal S512x1024 .f32) (r : Fin 512) :
    k0_pay6 (F := Ideal) a (ix2 r 0) = mean (fun j => dev (fun k => a (ix2 r k)) j * dev (fun k => a (ix2 r k)) j) := by
  unfold dev
  rw [← pay_mean]
  unfold k0_pay6 mean cnt
  pointwise

theorem pay_hat (a : Vec Ideal S512x1024 .f32) (r : Fin 512) (l : Fin 1024) :
    k0_pay7 (F := Ideal) a (ix2 r l) = xhat (fun k => a (ix2 r k)) l := by
  unfold xhat spread
  rw [← pay_var]
  unfold dev
  rw [← pay_mean]
  unfold k0_pay7 eps
  pointwise

theorem pay_row (a dy : Vec Ideal S512x1024 .f32) (g : Vec Ideal S1x1024 .f32) (r : Fin 512) (l : Fin 1024) :
    k0_pay8 (F := Ideal) a dy g (ix2 r l)
      = dRow (fun k => a (ix2 r k)) (fun k => @HMul.hMul EReal EReal EReal _ (dy (ix2 r k)) (g (ix2 0 k))) l := by
  unfold dRow spread
  rw [← pay_var]
  simp only [← pay_hat]
  unfold k0_pay8 mean cnt eps
  pointwise

/-- What a point adds to the gradient of the scale. -/
def part (t : Fin cfg0.N) (y : S1x1024.Idx) : EReal := k0_pay1 (F := Ideal) (k0_pay9 (iblk m c 0 t) (iblk m c 1 t)) y

/-- What a point adds to the gradient of the shift. -/
def share (t : Fin cfg0.N) (y : S1x1024.Idx) : EReal := k0_pay2 (F := Ideal) (iblk m c 1 t) y

theorem pt (t : Fin cfg0.N) : t.val < 4 := lt_of_lt_of_eq t.isLt N_0

theorem out_row (t : Fin cfg0.N) :
    (outsAt0 m c t.val t.isLt).1 = k0_pay8 (F := Ideal) (iblk m c 0 t) (iblk m c 1 t) (iblk m c 2 t) := by
  have ht := pt t
  by_cases h0 : t.val % 4 = 0
  · rw [outsAt0_A m c t h0 (by omega) h0 (by omega)]
    frame_out
  · rw [outsAt0_B m c t h0 (by omega) h0 (by omega)]
    frame_out

theorem gain_A (t : Fin cfg0.N) (h0 : t.val % 4 = 0) (y : S1x1024.Idx) :
    (outsAt0 m c t.val t.isLt).2.1 y = @HAdd.hAdd EReal EReal EReal _ 0 (part m c t y) := by
  have ht := pt t
  rw [outsAt0_A m c t h0 (by omega) h0 (by omega), zero_add]
  unfold part
  frame_out

theorem gain_B (t : Fin cfg0.N) (h0 : ¬ t.val % 4 = 0) (y : S1x1024.Idx) :
    (outsAt0 m c t.val t.isLt).2.1 y = @HAdd.hAdd EReal EReal EReal _
      ((outsAt0 m c (t.val - 1) (Nat.lt_of_le_of_lt (Nat.sub_le _ _) t.isLt)).2.1 y) (part m c t y) := by
  have ht := pt t
  rw [outsAt0_B m c t h0 (by omega) h0 (by omega)]
  unfold part
  frame_out
  unfold k0_pay3
  pointwise

theorem shift_A (t : Fin cfg0.N) (h0 : t.val % 4 = 0) (y : S1x1024.Idx) :
    (outsAt0 m c t.val t.isLt).2.2 y = @HAdd.hAdd EReal EReal EReal _ 0 (share m c t y) := by
  have ht := pt t
  rw [outsAt0_A m c t h0 (by omega) h0 (by omega), zero_add]
  unfold share
  frame_out

theorem shift_B (t : Fin cfg0.N) (h0 : ¬ t.val % 4 = 0) (y : S1x1024.Idx) :
    (outsAt0 m c t.val t.isLt).2.2 y = @HAdd.hAdd EReal EReal EReal _
      ((outsAt0 m c (t.val - 1) (Nat.lt_of_le_of_lt (Nat.sub_le _ _) t.isLt)).2.2 y) (share m c t y) := by
  have ht := pt t
  rw [outsAt0_B m c t h0 (by omega) h0 (by omega)]
  unfold share
  frame_out
  unfold k0_pay4
  pointwise

/-! ## What the arrays hold at the end -/

/-- Which block of each array a point works on. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

/-- The row of the arrays that row `r` of the blocks of point `t` is. -/
def row (t : Fin cfg0.N) (r : Fin 512) : Fin 2048 := ⟨t.val * 512 + r.val, by have ht := pt t; omega⟩

theorem in0 (t : Fin cfg0.N) (r : Fin 512) (l : Fin 1024) :
    iblk m c 0 t (ix2 r l) = m ((c : Thread nD τ).loc main_arg0) (ix2 (row t r) l) := by blk_ext [iblk, V, idx t, row]
theorem in1 (t : Fin cfg0.N) (r : Fin 512) (l : Fin 1024) :
    iblk m c 1 t (ix2 r l) = m ((c : Thread nD τ).loc main_arg1) (ix2 (row t r) l) := by blk_ext [iblk, V, idx t, row]
theorem in2 (t : Fin cfg0.N) (l : Fin 1024) :
    iblk m c 2 t (ix2 0 l) = m ((c : Thread nD τ).loc main_arg2) (ix2 0 l) := by blk_ext [iblk, V, idx t]

/-- A row of the array the norm was taken of. -/
def rowIn (r : Fin 2048) (k : Fin 1024) : EReal := m ((c : Thread nD τ).loc main_arg0) (ix2 r k)

/-- A row of the gradient of the norm's result. -/
def rowDy (r : Fin 2048) (k : Fin 1024) : EReal := m ((c : Thread nD τ).loc main_arg1) (ix2 r k)

/-- A row of the gradient of the normalized entries. -/
def rowU (r : Fin 2048) (k : Fin 1024) : EReal := rowDy m c r k * m ((c : Thread nD τ).loc main_arg2) (ix2 0 k)

theorem row_in (t : Fin cfg0.N) (r : Fin 512) (l : Fin 1024) :
    k0_pay8 (F := Ideal) (iblk m c 0 t) (iblk m c 1 t) (iblk m c 2 t) (ix2 r l) = dRow (rowIn m c (row t r)) (rowU m c (row t r)) l := by
  rw [pay_row]
  simp only [in0, in1, in2]
  rfl

theorem out3 : (dats m 0 c).arrAt 3 cfg0.N = fun i => dRow (rowIn m c (i 0)) (rowU m c (i 0)) (i 1) := by
  refine (dats m 0 c).arrAt_eq_of_covers 3 _ (by decide +kernel) fun t _ y => ?_
  blk_simp
  rw [after0_3, out_row]
  idx_vars y
  have hi : ((View.whole main_v0_0).slice (win0_3.rect t)).emb (ix2 y0 y1) = ix2 (row t y0) y1 := by blk_ext [idx t, row]
  rw [hi]
  exact row_in m c t y0 y1

theorem part_in (t : Fin cfg0.N) (l : Fin 1024) :
    part m c t (ix2 0 l) = ∑ r : Fin 512, rowDy m c (row t r) l * xhat (rowIn m c (row t r)) l := by
  have h : ∀ r : Fin 512, k0_pay9 (F := Ideal) (iblk m c 0 t) (iblk m c 1 t) (ix2 r l) = rowDy m c (row t r) l * xhat (rowIn m c (row t r)) l := by
    intro r
    unfold k0_pay9
    pointwise
    rw [pay_hat]
    simp only [in0, in1]
    rfl
  unfold part k0_pay1
  pointwise
  exact Finset.sum_congr rfl fun r _ => h r

theorem share_in (t : Fin cfg0.N) (l : Fin 1024) : share m c t (ix2 0 l) = ∑ r : Fin 512, rowDy m c (row t r) l := by
  unfold share k0_pay2
  pointwise
  refine Finset.sum_congr rfl fun r _ => ?_
  rw [in1]
  rfl

theorem total_gain (t : Fin cfg0.N) (ht : t.val + 1 = cfg0.N) (l : Fin 1024) :
    (outsAt0 m c t.val t.isLt).2.1 (ix2 0 l) = dGain (rowIn m c) (rowDy m c) l := by
  have h := Pipeline.eq_sum_fin_of_reset_step_apply_last (fun n h => (outsAt0 m c n h).2.1) 4 (fun _ => 0)
    (fun t y => part m c t y) (gain_A m c) (gain_B m c) (le_of_eq N_0) t ht (ix2 0 l)
  refine h.trans ?_
  rw [zero_add]
  simp only [part_in]
  exact Fin.sum_mul_add_congr (S := cfg0.N) (n := 512) (fun s k hl => rfl) (by rw [show cfg0.N = 4 from N_0])

theorem total_shift (t : Fin cfg0.N) (ht : t.val + 1 = cfg0.N) (l : Fin 1024) :
    (outsAt0 m c t.val t.isLt).2.2 (ix2 0 l) = dShift (rowDy m c) l := by
  have h := Pipeline.eq_sum_fin_of_reset_step_apply_last (fun n h => (outsAt0 m c n h).2.2) 4 (fun _ => 0)
    (fun t y => share m c t y) (shift_A m c) (shift_B m c) (le_of_eq N_0) t ht (ix2 0 l)
  refine h.trans ?_
  rw [zero_add]
  simp only [share_in]
  exact Fin.sum_mul_add_congr (S := cfg0.N) (n := 512) (fun s k hl => rfl) (by rw [show cfg0.N = 4 from N_0])

theorem out4 : (dats m 0 c).arrAt 4 cfg0.N = fun i => dGain (rowIn m c) (rowDy m c) (i 1) := by
  refine (dats m 0 c).arrAt_eq_of_covers 4 _ (by decide +kernel) fun t hf y => ?_
  have ht : t.val + 1 = cfg0.N := by revert hf; revert t; decide +kernel
  blk_simp
  rw [after0_4]
  idx_vars y
  obtain rfl : y0 = 0 := Subsingleton.elim _ _
  have hi : ((View.whole main_v0_1).slice (win0_4.rect t)).emb (ix2 0 y1) = ix2 0 y1 := by blk_ext [idx t]
  rw [hi]
  exact total_gain m c t ht y1

theorem out5 : (dats m 0 c).arrAt 5 cfg0.N = fun i => dShift (rowDy m c) (i 1) := by
  refine (dats m 0 c).arrAt_eq_of_covers 5 _ (by decide +kernel) fun t hf y => ?_
  have ht : t.val + 1 = cfg0.N := by revert hf; revert t; decide +kernel
  blk_simp
  rw [after0_5]
  idx_vars y
  obtain rfl : y0 = 0 := Subsingleton.elim _ _
  have hi : ((View.whole main_v0_2).slice (win0_5.rect t)).emb (ix2 0 y1) = ix2 0 y1 := by blk_ext [idx t]
  rw [hi]
  exact total_shift m c t ht y1

end Cert.Kernel11Ideal.Norm

end
-- ==== Proof.NormRef.lean ====
/- The reference of the gradient of a layer norm: each of its three results, index by index. -/
module

public import proofs.«01_k».proof.Proof.Gen.Reference11Ideal.Read
public import proofs.«01_k».proof.Proof.NormSpec
public import Idealize.ShloMosaic.Lib.Pointwise

@[expose] public section

set_option maxRecDepth 16384

noncomputable section

namespace Cert.Reference11Ideal.Norm

open Cert.Norm
open Cert.Reference11Ideal Cert.Reference11Ideal.Gen Cert.Reference11Ideal.Read Idealize.ShloMosaic Idealize.ShloMosaic.TcCoe

variable (a dy : (⟨S2048x1024, .f32⟩ : BufTy).Contents (Elt Ideal)) (g : (⟨S1x1024, .f32⟩ : BufTy).Contents (Elt Ideal)) (r : Fin 2048) (l : Fin 1024)

/-- A row of the array the norm is taken of. -/
def rowIn (r : Fin 2048) (k : Fin 1024) : EReal := a (ix2 r k)

/-- A row of the gradient of the normalized entries. -/
def rowU (r : Fin 2048) (k : Fin 1024) : EReal := @HMul.hMul EReal EReal EReal _ (dy (ix2 r k)) (g (ix2 0 k))

theorem mean_eq : val_main_v4 (F := Ideal) a (ix2 r 0) = mean (rowIn a r) := by
  unfold mean rowIn cnt
  pointwise [val_main_v4, val_main_v3, val_main_v2, val_main_v1, val_main_cst_1, val_main_cst_0]

theorem dev_eq6 : val_main_v6 (F := Ideal) a (ix2 r l) = dev (rowIn a r) l := by
  unfold dev
  rw [← mean_eq]
  unfold rowIn
  pointwise [val_main_v6, val_main_v5]

theorem dev_eq15 : val_main_v15 (F := Ideal) a (ix2 r l) = dev (rowIn a r) l := by
  unfold dev
  rw [← mean_eq]
  unfold rowIn
  pointwise [val_main_v15, val_main_v14]

theorem spread_eq : val_main_v17 (F := Ideal) a (ix2 r 0) = spread (rowIn a r) := by
  unfold spread
  simp only [← dev_eq6]
  unfold mean cnt eps
  pointwise [val_main_v17, val_main_v16, val_main_v13, val_main_v12, val_main_v11, val_main_v10, val_main_v7, val_main_cst_5, val_main_cst_4, val_main_cst_3]

theorem root_eq : val_main_v18 (F := Ideal) a (ix2 r 0) = Ideal.rsqrt (spread (rowIn a r)) := by
  rw [← spread_eq]
  pointwise [val_main_v18]

theorem hat_eq : val_main_v23 (F := Ideal) a (ix2 r l) = xhat (rowIn a r) l := by
  unfold xhat
  rw [← dev_eq15, ← root_eq]
  pointwise [val_main_v23, val_main_v22]

theorem u_eq : val_main_v35 (F := Ideal) dy g (ix2 r l) = rowU dy g r l := by
  unfold rowU
  pointwise [val_main_v35, val_main_v34, val_main_v28]

theorem scaled_eq : val_main_v40 (F := Ideal) a dy g (ix2 r l) = rowU dy g r l * Ideal.rsqrt (spread (rowIn a r)) := by
  rw [← u_eq, ← root_eq]
  pointwise [val_main_v40, val_main_v39]

theorem dvar_eq : val_main_v47 (F := Ideal) a dy g (ix1 r) = dVar (rowIn a r) (rowU dy g r) := by
  unfold dVar
  rw [← root_eq, ← spread_eq]
  simp only [← dev_eq15, ← u_eq]
  unfold cnt
  pointwise [val_main_v47, val_main_v46, val_main_v45, val_main_v41, val_main_v38, val_main_v37, val_main_v36, val_main_v21, val_main_v20, val_main_v19, val_main_cst_12, val_main_cst_11, val_main_cst_9, val_main_cst_6]
  exact Fin.sum_univ_one _

theorem thru_eq : val_main_v49 (F := Ideal) a dy g (ix2 r l) = thruVar (rowIn a r) (rowU dy g r) l := by
  unfold thruVar
  rw [← dvar_eq, ← dev_eq6]
  pointwise [val_main_v49, val_main_v48, val_main_v9, val_main_v8, val_main_cst_2]

theorem chain_row : val_main_v59 (F := Ideal) a dy g (ix2 r l) = chain (rowIn a r) (rowU dy g r) l := by
  unfold chain
  simp only [← scaled_eq, ← thru_eq]
  unfold cnt
  pointwise [val_main_v59, val_main_v58, val_main_v57, val_main_v56, val_main_v55, val_main_v54, val_main_v53, val_main_v52, val_main_v51, val_main_v50, val_main_v44, val_main_v43, val_main_v42, val_main_cst_15, val_main_cst_14, val_main_cst_13, val_main_cst_10]
  exact congrArg _ (Fin.sum_univ_one _)

/-- Where the cotangent and the scale are finite, the reference's first result is the gradient of the rows. -/
theorem closedRow (hdy : ∀ i, ∃ x : ℝ, dy i = x) (hg : ∀ i, ∃ x : ℝ, g i = x) (i : S2048x1024.Idx) :
    val_main_v59 (F := Ideal) a dy g i = dRow (rowIn a (i 0)) (rowU dy g (i 0)) (i 1) := by
  idx_vars i
  exact (chain_row a dy g i0 i1).trans (chain_eq _ _ (fun k => Soft.mul_real (hdy (ix2 i0 k)) (hg (ix2 0 k))) i1)

theorem closedGain (i : S1x1024.Idx) : val_main_v33 (F := Ideal) a dy i = dGain (rowIn a) (fun r k => dy (ix2 r k)) (i 1) := by
  idx_vars i
  obtain rfl : i0 = 0 := Subsingleton.elim _ _
  refine Eq.trans ?_ (Finset.sum_congr rfl fun r _ => congrArg (fun x : EReal => @HMul.hMul EReal EReal EReal _ (dy (ix2 r i1)) x) (hat_eq a r i1))
  pointwise [val_main_v33, val_main_v32, val_main_v31, val_main_v28, val_main_cst_8]
  exact Finset.sum_congr rfl fun r _ => mul_comm _ _

theorem closedShift (i : S1x1024.Idx) : val_main_v30 (F := Ideal) dy i = dShift (fun r k => dy (ix2 r k)) (i 1) := by
  idx_vars i
  obtain rfl : i0 = 0 := Subsingleton.elim _ _
  unfold dShift
  pointwise [val_main_v30, val_main_v29, val_main_cst_7]

end Cert.Reference11Ideal.Norm

end
-- ==== Proof.NormValues.lean ====
/- Program 11: the gradient of a layer norm, the kernel against its reference where the cotangent and the scale are finite. -/
module

public import proofs.«01_k».proof.Defs
public import proofs.«01_k».proof.Proof.Norm
public import proofs.«01_k».proof.Proof.NormRef
public import proofs.«01_k».proof.Proof.Gen.Reference11Ideal.Run
public import Idealize.ShloMosaic.Adequacy
public import Idealize.ShloMosaic.Init

@[expose] public section

noncomputable section

namespace Cert.Proof

open Idealize.ShloMosaic Idealize.ShloMosaic.TcCoe Idealize.SL.Sem

instance normFacts : Cert.Pre_finite_rows.Facts where
  bcast_S_S2048x1024 := by decide
  bcast_S_S1x1024 := by decide

/-- A value of absolute value below infinity is a real number. -/
theorem real_of_bit (x : EReal) (h : Ideal.cmp .olt (max x (-x)) (Ideal.ofBits .f32 0x7F800000#32) = 1#1) : ∃ r : ℝ, x = r := by
  rw [Soft.pinf] at h
  induction x with
  | coe r => exact ⟨r, rfl⟩
  | top => simp [Ideal.cmp] at h
  | bot => simp [Ideal.cmp] at h

/-- The reference of program 11 leaves its arguments as they were, and has no semaphore. -/
theorem ref_frame11 [Cert.Reference11Ideal.Facts] (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0) :=
  (θ_run _ _ _).mono (fun r h => ⟨fun c => (h c).2.2.2, sem_eq_zero_of_no_sems (by decide) r.2⟩) (Cert.Reference11Ideal.Value.run m g)

/-- Program 11, the gradient of a layer norm, and its reference compute the same arrays where the cotangent and the scale are finite. -/
theorem value11 [Cert.Kernel11Ideal.Facts] [Cert.Reference11Ideal.Facts] : Cert.algebraic_Kernel11Ideal_Reference11Ideal_pre_finite_rows := by
  intro m g m' g' hpre hagree
  refine ⟨_, _, _, Cert.Kernel11Ideal.Value.run_blocks m g, ?_⟩
  refine (θ_run _ _ _).mono (fun r h c => ⟨(h c).1.trans ?_, (h c).2.1.trans ?_, (h c).2.2.1.trans ?_, (h c).2.2.2⟩) (Cert.Reference11Ideal.Value.run m' g')
  all_goals obtain ⟨a0, a1, a2⟩ := hagree c
  · refine (Cert.Reference11Ideal.Read.val_main_v59_eq m' c).trans (funext fun i => ?_)
    rw [a0, a1, a2]
    exact (Cert.Reference11Ideal.Norm.closedRow _ _ _ (fun i => real_of_bit _ (congrFun (hpre c).1 i)) (fun i => real_of_bit _ (congrFun (hpre c).2 i)) i).trans (congrFun (Cert.Kernel11Ideal.Norm.out3 m c) i).symm
  · rw [a0, a1]
    refine (Cert.Reference11Ideal.Read.val_main_v33_eq _ _).trans (funext fun i => ?_)
    exact (Cert.Reference11Ideal.Norm.closedGain _ _ i).trans (congrFun (Cert.Kernel11Ideal.Norm.out4 m c) i).symm
  · rw [a1]
    refine (Cert.Reference11Ideal.Read.val_main_v30_eq _).trans (funext fun i => ?_)
    exact (Cert.Reference11Ideal.Norm.closedShift _ i).trans (congrFun (Cert.Kernel11Ideal.Norm.out5 m c) i).symm

end Cert.Proof

end
-- ==== Proof.NormFwd.lean ====
/- The forward call of a layer norm and its reference: both results of each, index by index. -/
module

public import proofs.«01_k».proof.Proof.Gen.Kernel19Ideal.Value
public import proofs.«01_k».proof.Proof.Gen.Reference19Ideal.Read
public import proofs.«01_k».proof.Proof.NormSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Norm

open Idealize.ShloMosaic

/-- An entry of the rows the norm is taken of: the residual scaled by its constant, plus the sublayer's result. -/
def resid (x h : EReal) : EReal := Ideal.ofBits .f32 0x3FD744FD#32 * x + h

/-- An entry of the norm's result. -/
def normed (a g b : Fin 1024 → EReal) (k : Fin 1024) : EReal := xhat a k * g k + b k

/-- The rows the norm is taken of. -/
def residRow (x h : Fin 2048 → Fin 1024 → EReal) (r : Fin 2048) (k : Fin 1024) : EReal := resid (x r k) (h r k)

end Cert.Norm

namespace Cert.Kernel19Ideal.Norm

open Cert.Norm
open Cert.Kernel19Ideal Cert.Kernel19Ideal.Gen Cert.Kernel19Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem ld_a (x : Vec Ideal S512x1024 .f32) : View.ld x r0_0 = x := View.ld_unit_zero (by funext a; fin_cases a <;> rfl) _ _
theorem ld_b (x : Vec Ideal S1x1024 .f32) : View.ld x r0_1 = x := View.ld_unit_zero (by funext a; fin_cases a <;> rfl) _ _
theorem canon_a (p : Vec Ideal S512x1024 .f32) : View.canon (Val := Elt Ideal) (e := .f32) [⟨r0_0, p⟩] = p :=
  View.canon_unit_zero (by funext a; fin_cases a <;> rfl) _ _

section Blocks

variable (x h : Vec Ideal S512x1024 .f32) (g b : Vec Ideal S1x1024 .f32) (r : Fin 512) (l : Fin 1024)

theorem pay_res : k0_pay1 (F := Ideal) x h (ix2 r l) = resid (x (ix2 r l)) (h (ix2 r l)) := by
  unfold k0_pay1 resid
  pointwise

theorem blk4 : out0_4 (F := Ideal) x h g b (ix2 r l) = resid (x (ix2 r l)) (h (ix2 r l)) := by
  unfold out0_4
  rw [canon_a, ld_a, ld_a, pay_res]

theorem blk5 : out0_5 (F := Ideal) x h g b (ix2 r l)
    = normed (fun k => resid (x (ix2 r k)) (h (ix2 r k))) (fun k => g (ix2 0 k)) (fun k => b (ix2 0 k)) l := by
  unfold out0_5
  rw [canon_a, ld_a, ld_a, ld_b, ld_b]
  unfold normed xhat spread mean dev mean cnt eps
  simp only [← pay_res]
  unfold k0_pay2
  pointwise

end Blocks

/-- Which block of each array a point works on. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The row of the arrays that row `r` of the blocks of point `t` is. -/
def row (t : Fin cfg0.N) (r : Fin 512) : Fin 2048 :=
  ⟨t.val * 512 + r.val, by have ht : t.val < 4 := lt_of_lt_of_eq t.isLt N_0; omega⟩

theorem in0 (t : Fin cfg0.N) (r : Fin 512) (l : Fin 1024) :
    iblk m c 0 t (ix2 r l) = m ((c : Thread nD τ).loc main_arg0) (ix2 (row t r) l) := by blk_ext [iblk, V, idx t, row]
theorem in1 (t : Fin cfg0.N) (r : Fin 512) (l : Fin 1024) :
    iblk m c 1 t (ix2 r l) = m ((c : Thread nD τ).loc main_arg1) (ix2 (row t r) l) := by blk_ext [iblk, V, idx t, row]
theorem in2 (t : Fin cfg0.N) (l : Fin 1024) :
    iblk m c 2 t (ix2 0 l) = m ((c : Thread nD τ).loc main_arg2) (ix2 0 l) := by blk_ext [iblk, V, idx t]
theorem in3 (t : Fin cfg0.N) (l : Fin 1024) :
    iblk m c 3 t (ix2 0 l) = m ((c : Thread nD τ).loc main_arg3) (ix2 0 l) := by blk_ext [iblk, V, idx t]

theorem out4 : (dats m 0 c).arrAt 4 cfg0.N = fun i => residRow (fun r k => m ((c : Thread nD τ).loc main_arg0) (ix2 r k))
    (fun r k => m ((c : Thread nD τ).loc main_arg1) (ix2 r k)) (i 0) (i 1) := by
  refine (dats m 0 c).arrAt_eq_of_covers 4 _ (by decide +kernel) fun t _ y => ?_
  blk_simp
  rw [after0_4]
  idx_vars y
  have hi : ((View.whole main_v0_0).slice (win0_4.rect t)).emb (ix2 y0 y1) = ix2 (row t y0) y1 := by blk_ext [idx t, row]
  rw [hi, blk4, in0, in1]
  rfl

theorem out5 : (dats m 0 c).arrAt 5 cfg0.N = fun i => normed (residRow (fun r k => m ((c : Thread nD τ).loc main_arg0) (ix2 r k))
    (fun r k => m ((c : Thread nD τ).loc main_arg1) (ix2 r k)) (i 0)) (fun k => m ((c : Thread nD τ).loc main_arg2) (ix2 0 k))
    (fun k => m ((c : Thread nD τ).loc main_arg3) (ix2 0 k)) (i 1) := by
  refine (dats m 0 c).arrAt_eq_of_covers 5 _ (by decide +kernel) fun t _ y => ?_
  blk_simp
  rw [after0_5]
  idx_vars y
  have hi : ((View.whole main_v0_1).slice (win0_5.rect t)).emb (ix2 y0 y1) = ix2 (row t y0) y1 := by blk_ext [idx t, row]
  rw [hi, blk5]
  simp only [in0, in1, in2, in3]
  rfl

end Cert.Kernel19Ideal.Norm

namespace Cert.Reference19Ideal.Norm

open Cert.Norm
open Cert.Reference19Ideal Cert.Reference19Ideal.Gen Cert.Reference19Ideal.Read Idealize.ShloMosaic Idealize.ShloMosaic.TcCoe

variable (x h : (⟨S2048x1024, .f32⟩ : BufTy).Contents (Elt Ideal)) (g b : (⟨S1x1024, .f32⟩ : BufTy).Contents (Elt Ideal))

theorem res_eq (r : Fin 2048) (l : Fin 1024) : val_main_v2 (F := Ideal) x h (ix2 r l) = residRow (fun r k => x (ix2 r k)) (fun r k => h (ix2 r k)) r l := by
  unfold residRow resid
  pointwise [val_main_v2, val_main_v1, val_main_v0, val_main_cst]

theorem closedRes (i : S2048x1024.Idx) : val_main_v2 (F := Ideal) x h i = residRow (fun r k => x (ix2 r k)) (fun r k => h (ix2 r k)) (i 0) (i 1) := by
  idx_vars i
  exact res_eq x h i0 i1

theorem closedOut (i : S2048x1024.Idx) : val_main_v24 (F := Ideal) x h g b i
    = normed (residRow (fun r k => x (ix2 r k)) (fun r k => h (ix2 r k)) (i 0)) (fun k => g (ix2 0 k)) (fun k => b (ix2 0 k)) (i 1) := by
  idx_vars i
  refine Eq.trans ?_ (congrArg (fun a => normed a (fun k => g (ix2 0 k)) (fun k => b (ix2 0 k)) i1) (funext fun k => res_eq x h i0 k))
  unfold normed xhat spread mean dev mean cnt eps
  pointwise [val_main_v24, val_main_v23, val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_cst_4, val_main_cst_3, val_main_cst_2, val_main_cst_1, val_main_cst_0]

end Cert.Reference19Ideal.Norm

end
-- ==== Proof.MergeFwd.lean ====
/- The forward call of the merge and its reference: the result of each, index by index. -/
module

public import proofs.«01_k».proof.Proof.Gen.Kernel20Ideal.Value
public import proofs.«01_k».proof.Proof.Gen.Reference20Ideal.Read
public import proofs.«01_k».proof.Proof.MergeSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Merge

open Idealize.ShloMosaic

/-- The gated sum of the three branches; the gates lie in the wide rows `z`. -/
def merged (z : Fin 2048 → Fin 7168 → EReal) (ya : Fin 2048 → Fin 1024 → EReal) (y2 : Fin 2048 → Fin 2048 → EReal) (yc : Fin 2048 → Fin 1024 → EReal)
    (r : Fin 2048) (l : Fin 1024) : EReal :=
  Ideal.logistic (z r ⟨4096 + l.val, by omega⟩) * ya r l + Ideal.logistic (z r ⟨5120 + l.val, by omega⟩) * rowGated y2 r l
    + Ideal.logistic (z r ⟨6144 + l.val, by omega⟩) * yc r l

end Cert.Merge

namespace Cert.Kernel20Ideal.Merge

open Cert.Merge
open Cert.Kernel20Ideal Cert.Kernel20Ideal.Gen Cert.Kernel20Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem ld_a (x : Vec Ideal S256x1024 .f32) : View.ld x r0_0 = x := View.ld_unit_zero (by funext a; fin_cases a <;> rfl) _ _
theorem ld_b (x : Vec Ideal S256x2048 .f32) : View.ld x r0_1 = x := View.ld_unit_zero (by funext a; fin_cases a <;> rfl) _ _
theorem canon_a (p : Vec Ideal S256x1024 .f32) : View.canon (Val := Elt Ideal) (e := .f32) [⟨r0_0, p⟩] = p :=
  View.canon_unit_zero (by funext a; fin_cases a <;> rfl) _ _

theorem blk6 (g0 g1 g2 ya yc : Vec Ideal S256x1024 .f32) (y2 : Vec Ideal S256x2048 .f32) (r : Fin 256) (l : Fin 1024) :
    out0_6 (F := Ideal) g0 g1 g2 ya y2 yc (ix2 r l)
      = @HAdd.hAdd EReal EReal EReal _ (@HAdd.hAdd EReal EReal EReal _ (@HMul.hMul EReal EReal EReal _ (Ideal.logistic (g0 (ix2 r l))) (ya (ix2 r l)))
          (Ideal.logistic (g1 (ix2 r l)) * gated (y2 (ix2 r ⟨l.val, by omega⟩)) (y2 (ix2 r ⟨1024 + l.val, by omega⟩))))
        (@HMul.hMul EReal EReal EReal _ (Ideal.logistic (g2 (ix2 r l))) (yc (ix2 r l))) := by
  unfold out0_6 gated
  rw [canon_a, ld_a, ld_a, ld_a, ld_a, ld_b, ld_a]
  open_payloads
  pointwise

/-- Which block of each array a point works on. -/
theorem idx : ∀ t : Fin cfg0.N, win0_0.index t = ![t.val, 4] ∧ win0_1.index t = ![t.val, 5] ∧ win0_2.index t = ![t.val, 6] ∧ win0_3.index t = ![t.val, 0]
    ∧ win0_4.index t = ![t.val, 0] ∧ win0_5.index t = ![t.val, 0] ∧ win0_6.index t = ![t.val, 0] :=
  (by decide +kernel : ∀ t : Fin grid0.N, _)

/-- The row of the arrays that row `r` of the blocks of point `t` is. -/
def row (t : Fin cfg0.N) (r : Fin 256) : Fin 2048 :=
  ⟨t.val * 256 + r.val, by have ht : t.val < 8 := lt_of_lt_of_eq t.isLt N_0; omega⟩

theorem in0 (t : Fin cfg0.N) (r : Fin 256) (l : Fin 1024) :
    iblk m c 0 t (ix2 r l) = m ((c : Thread nD τ).loc main_arg0) (ix2 (row t r) ⟨4096 + l.val, by omega⟩) := by blk_ext [iblk, V, idx t, row]
theorem in1 (t : Fin cfg0.N) (r : Fin 256) (l : Fin 1024) :
    iblk m c 1 t (ix2 r l) = m ((c : Thread nD τ).loc main_arg0) (ix2 (row t r) ⟨5120 + l.val, by omega⟩) := by blk_ext [iblk, V, idx t, row]
theorem in2 (t : Fin cfg0.N) (r : Fin 256) (l : Fin 1024) :
    iblk m c 2 t (ix2 r l) = m ((c : Thread nD τ).loc main_arg0) (ix2 (row t r) ⟨6144 + l.val, by omega⟩) := by blk_ext [iblk, V, idx t, row]
theorem in3 (t : Fin cfg0.N) (r : Fin 256) (l : Fin 1024) :
    iblk m c 3 t (ix2 r l) = m ((c : Thread nD τ).loc main_arg1) (ix2 (row t r) l) := by blk_ext [iblk, V, idx t, row]
theorem in4 (t : Fin cfg0.N) (r : Fin 256) (l : Fin 2048) :
    iblk m c 4 t (ix2 r l) = m ((c : Thread nD τ).loc main_arg2) (ix2 (row t r) l) := by blk_ext [iblk, V, idx t, row]
theorem in5 (t : Fin cfg0.N) (r : Fin 256) (l : Fin 1024) :
    iblk m c 5 t (ix2 r l) = m ((c : Thread nD τ).loc main_arg3) (ix2 (row t r) l) := by blk_ext [iblk, V, idx t, row]

theorem out6 : (dats m 0 c).arrAt 6 cfg0.N = fun i => merged (fun r k => m ((c : Thread nD τ).loc main_arg0) (ix2 r k))
    (fun r k => m ((c : Thread nD τ).loc main_arg1) (ix2 r k)) (fun r k => m ((c : Thread nD τ).loc main_arg2) (ix2 r k))
    (fun r k => m ((c : Thread nD τ).loc main_arg3) (ix2 r k)) (i 0) (i 1) := by
  refine (dats m 0 c).arrAt_eq_of_covers 6 _ (by decide +kernel) fun t _ y => ?_
  blk_simp
  rw [after0_6]
  idx_vars y
  have hi : ((View.whole main_v0).slice (win0_6.rect t)).emb (ix2 y0 y1) = ix2 (row t y0) y1 := by blk_ext [idx t, row]
  rw [hi, blk6]
  simp only [in0, in1, in2, in3, in4, in5]
  rfl

end Cert.Kernel20Ideal.Merge

namespace Cert.Reference20Ideal.Merge

open Cert.Merge
open Cert.Reference20Ideal Cert.Reference20Ideal.Gen Cert.Reference20Ideal.Read Idealize.ShloMosaic Idealize.ShloMosaic.TcCoe

variable (z : (⟨S2048x7168, .f32⟩ : BufTy).Contents (Elt Ideal)) (ya yc : (⟨S2048x1024, .f32⟩ : BufTy).Contents (Elt Ideal))
  (y2 : (⟨S2048x2048, .f32⟩ : BufTy).Contents (Elt Ideal))

theorem logistic_eq (x : EReal) : Ideal.logistic x = Ideal.div 1 (1 + Ideal.exp (-x)) := rfl

theorem closed (i : S2048x1024.Idx) : val_main_v34 (F := Ideal) z ya y2 yc i
    = merged (fun r k => z (ix2 r k)) (fun r k => ya (ix2 r k)) (fun r k => y2 (ix2 r k)) (fun r k => yc (ix2 r k)) (i 0) (i 1) := by
  idx_vars i
  show _ = merged (fun r k => z (ix2 r k)) (fun r k => ya (ix2 r k)) (fun r k => y2 (ix2 r k)) (fun r k => yc (ix2 r k)) i0 i1
  unfold merged rowGated gated
  simp only [logistic_eq]
  pointwise [val_main_v34, val_main_v33, val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13, val_main_v12, val_main_v11, val_main_v10, val_main_v9,
    val_main_v8, val_main_v7, val_main_v6, val_main_v5, val_main_v4, val_main_v3, val_main_v2, val_main_v1, val_main_v0, val_main_cst, val_main_cst_0, val_main_cst_1, val_main_cst_2, val_main_cst_3,
    val_main_cst_4, val_main_cst_5, val_main_cst_6]

end Cert.Reference20Ideal.Merge

end
-- ==== Proof.TailFwd.lean ====
/- The forward call at the end of the state-space branch and its reference: the result of each, index by index. -/
module

public import proofs.«01_k».proof.Proof.Gen.Kernel21Ideal.Value
public import proofs.«01_k».proof.Proof.Gen.Reference21Ideal.Read
public import proofs.«01_k».proof.Proof.TailSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Tail

open Idealize.ShloMosaic

/-- The unit at the convolved state plus the input scaled by `d`. -/
def unit (hc : Fin 2048 → Fin 512 → EReal) (z : Fin 2048 → Fin 7168 → EReal) (d : Fin 512 → EReal) (r : Fin 2048) (l : Fin 512) : EReal :=
  @HAdd.hAdd EReal EReal EReal _ (hc r l) (d l * z r ⟨2048 + l.val, by omega⟩) * Mid.half (@HAdd.hAdd EReal EReal EReal _ (hc r l) (d l * z r ⟨2048 + l.val, by omega⟩))

end Cert.Tail

namespace Cert.Kernel21Ideal.Tail

open Cert.Tail
open Cert.Kernel21Ideal Cert.Kernel21Ideal.Gen Cert.Kernel21Ideal.Value Idealize.ShloMosaic Idealize.ShloMosaic.TcCoe Idealize.SL.Sem
open Idealize.ShloMosaic.Pipeline (Dat)

variable (m : (ℓ : Loc nD τ sig) → Buf (Elt Ideal) ℓ) (c : Dev nD)

theorem ld_a (x : Vec Ideal S256x512 .f32) : View.ld x r0_0 = x := View.ld_unit_zero (by funext a; fin_cases a <;> rfl) _ _
theorem ld_b (x : Vec Ideal S1x512 .f32) : View.ld x r0_1 = x := View.ld_unit_zero (by funext a; fin_cases a <;> rfl) _ _
theorem canon_a (p : Vec Ideal S256x512 .f32) : View.canon (Val := Elt Ideal) (e := .f32) [⟨r0_0, p⟩] = p :=
  View.canon_unit_zero (by funext a; fin_cases a <;> rfl) _ _

theorem blk3 (hc su : Vec Ideal S256x512 .f32) (d : Vec Ideal S1x512 .f32) (r : Fin 256) (l : Fin 512) :
    out0_3 (F := Ideal) hc su d (ix2 r l)
      = @HMul.hMul EReal EReal EReal _ (@HAdd.hAdd EReal EReal EReal _ (hc (ix2 r l)) (@HMul.hMul EReal EReal EReal _ (d (ix2 0 l)) (su (ix2 r l))))
        (Mid.half (@HAdd.hAdd EReal EReal EReal _ (hc (ix2 r l)) (@HMul.hMul EReal EReal EReal _ (d (ix2 0 l)) (su (ix2 r l))))) := by
  unfold out0_3 Mid.half Mid.th
  rw [canon_a, ld_a, ld_a, ld_b]
  open_payloads
  pointwise

/-- Which block of each array a point works on. -/
theorem idx : ∀ t : Fin cfg0.N, win0_0.index t = ![t.val, 0] ∧ win0_1.index t = ![t.val, 4] ∧ win0_2.index t = ![0, 0] ∧ win0_3.index t = ![t.val, 0] :=
  (by decide +kernel : ∀ t : Fin grid0.N, _)

/-- The row of the arrays that row `r` of the blocks of point `t` is. -/
def row (t : Fin cfg0.N) (r : Fin 256) : Fin 2048 :=
  ⟨t.val * 256 + r.val, by have ht : t.val < 8 := lt_of_lt_of_eq t.isLt N_0; omega⟩

theorem in0 (t : Fin cfg0.N) (r : Fin 256) (l : Fin 512) :
    iblk m c 0 t (ix2 r l) = m ((c : Thread nD τ).loc main_arg0) (ix2 (row t r) l) := by blk_ext [iblk, V, idx t, row]
theorem in1 (t : Fin cfg0.N) (r : Fin 256) (l : Fin 512) :
    iblk m c 1 t (ix2 r l) = m ((c : Thread nD τ).loc main_arg1) (ix2 (row t r) ⟨2048 + l.val, by omega⟩) := by blk_ext [iblk, V, idx t, row]
theorem in2 (t : Fin cfg0.N) (l : Fin 512) :
    iblk m c 2 t (ix2 0 l) = m ((c : Thread nD τ).loc main_arg2) (ix2 0 l) := by blk_ext [iblk, V, idx t]

theorem out3 : (dats m 0 c).arrAt 3 cfg0.N = fun i => unit (fun r k => m ((c : Thread nD τ).loc main_arg0) (ix2 r k))
    (fun r k => m ((c : Thread nD τ).loc main_arg1) (ix2 r k)) (fun k => m ((c : Thread nD τ).loc main_arg2) (ix2 0 k)) (i 0) (i 1) := by
  refine (dats m 0 c).arrAt_eq_of_covers 3 _ (by decide +kernel) fun t _ y => ?_
  blk_simp
  rw [after0_3]
  idx_vars y
  have hi : ((View.whole main_v0).slice (win0_3.rect t)).emb (ix2 y0 y1) = ix2 (row t y0) y1 := by blk_ext [idx t, row]
  rw [hi, blk3]
  simp only [in0, in1, in2]
  rfl

end Cert.Kernel21Ideal.Tail

namespace Cert.Reference21Ideal.Tail

open Cert.Tail
open Cert.Reference21Ideal Cert.Reference21Ideal.Gen Cert.Reference21Ideal.Read Idealize.ShloMosaic Idealize.ShloMosaic.TcCoe

variable (hc : (⟨S2048x512, .f32⟩ : BufTy).Contents (Elt Ideal)) (z : (⟨S2048x7168, .f32⟩ : BufTy).Contents (Elt Ideal))
  (d : (⟨S1x512, .f32⟩ : BufTy).Contents (Elt Ideal))

theorem arg_eq (r : Fin 2048) (l : Fin 512) : val_main_v3 (F := Ideal) hc z d (ix2 r l)
    = @HAdd.hAdd EReal EReal EReal _ (hc (ix2 r l)) (@HMul.hMul EReal EReal EReal _ (d (ix2 0 l)) (z (ix2 r ⟨2048 + l.val, by omega⟩))) := by
  pointwise [val_main_v3, val_main_v2, val_main_v1, val_main_v0]

theorem closed (i : S2048x512.Idx) : val_main_v16 (F := Ideal) hc z d i
    = unit (fun r k => hc (ix2 r k)) (fun r k => z (ix2 r k)) (fun k => d (ix2 0 k)) (i 0) (i 1) := by
  idx_vars i
  show _ = unit (fun r k => hc (ix2 r k)) (fun r k => z (ix2 r k)) (fun k => d (ix2 0 k)) i0 i1
  unfold unit
  rw [← arg_eq]
  unfold Mid.half Mid.th
  pointwise [val_main_v16, val_main_v15, val_main_v14, val_main_v13, val_main_v12, val_main_v11, val_main_v10, val_main_v9, val_main_v8, val_main_v7, val_main_v6, val_main_v5, val_main_v4,
    val_main_cst_2, val_main_cst_1, val_main_cst_0, val_main_cst]
  rw [mul_comm (_ * _) (val_main_v3 (F := Ideal) hc z d (ix2 i0 i1))]

end Cert.Reference21Ideal.Tail

end
-- ==== Proof.RowValues.lean ====
/- Programs 19 to 21: the forward calls of the layer norm, of the merge and of the end of the state-space branch, each kernel against its reference. -/
module

public import proofs.«01_k».proof.Defs
public import proofs.«01_k».proof.Proof.NormFwd
public import proofs.«01_k».proof.Proof.MergeFwd
public import proofs.«01_k».proof.Proof.TailFwd
public import proofs.«01_k».proof.Proof.Gen.Reference19Ideal.Run
public import proofs.«01_k».proof.Proof.Gen.Reference20Ideal.Run
public import proofs.«01_k».proof.Proof.Gen.Reference21Ideal.Run
public import Idealize.ShloMosaic.Adequacy
public import Idealize.ShloMosaic.Init

@[expose] public section

noncomputable section

namespace Cert.Proof

open Idealize.ShloMosaic Idealize.ShloMosaic.TcCoe Idealize.SL.Sem

/-- The reference of program 19 leaves its arguments as they were, and has no semaphore. -/
theorem ref_frame19 [Cert.Reference19Ideal.Facts] : Cert.quiescent_Reference19Ideal :=
  fun m g _ => (θ_run _ _ _).mono (fun r h => ⟨fun c => (h c).2.2, sem_eq_zero_of_no_sems (by decide) r.2⟩) (Cert.Reference19Ideal.Value.run m g)

/-- Program 19, the forward call of a layer norm, and its reference compute the same arrays. -/
theorem value19 [Cert.Kernel19Ideal.Facts] [Cert.Reference19Ideal.Facts] : Cert.algebraic_Kernel19Ideal_Reference19Ideal := by
  intro m g m' g' _ hagree
  refine ⟨_, _, Cert.Kernel19Ideal.Value.run_blocks m g, ?_⟩
  refine (θ_run _ _ _).mono (fun r h c => ⟨(h c).1.trans ?_, (h c).2.1.trans ?_, (h c).2.2⟩) (Cert.Reference19Ideal.Value.run m' g')
  all_goals obtain ⟨a0, a1, a2, a3⟩ := hagree c
  · rw [a0, a1]
    refine (Cert.Reference19Ideal.Read.val_main_v2_eq _ _).trans (funext fun i => ?_)
    exact (Cert.Reference19Ideal.Norm.closedRes _ _ i).trans (congrFun (Cert.Kernel19Ideal.Norm.out4 m c) i).symm
  · rw [a0, a1, a2, a3]
    refine (Cert.Reference19Ideal.Read.val_main_v24_eq _ _ _ _).trans (funext fun i => ?_)
    exact (Cert.Reference19Ideal.Norm.closedOut _ _ _ _ i).trans (congrFun (Cert.Kernel19Ideal.Norm.out5 m c) i).symm

/-- The reference of program 20 leaves its arguments as they were, and has no semaphore. -/
theorem ref_frame20 [Cert.Reference20Ideal.Facts] : Cert.quiescent_Reference20Ideal :=
  fun m g _ => (θ_run _ _ _).mono (fun r h => ⟨fun c => (h c).2, sem_eq_zero_of_no_sems (by decide) r.2⟩) (Cert.Reference20Ideal.Value.run m g)

/-- Program 20, the forward call of the merge, and its reference compute the same array. -/
theorem value20 [Cert.Kernel20Ideal.Facts] [Cert.Reference20Ideal.Facts] : Cert.algebraic_Kernel20Ideal_Reference20Ideal := by
  intro m g m' g' _ hagree
  refine ⟨_, Cert.Kernel20Ideal.Value.run_blocks m g, ?_⟩
  refine (θ_run _ _ _).mono (fun r h c => ⟨(h c).1.trans ?_, (h c).2⟩) (Cert.Reference20Ideal.Value.run m' g')
  obtain ⟨a0, a1, a2, a3⟩ := hagree c
  rw [a0, a1, a2, a3]
  refine (Cert.Reference20Ideal.Read.val_main_v34_eq _ _ _ _).trans (funext fun i => ?_)
  exact (Cert.Reference20Ideal.Merge.closed _ _ _ _ i).trans (congrFun (Cert.Kernel20Ideal.Merge.out6 m c) i).symm

/-- The reference of program 21 leaves its arguments as they were, and has no semaphore. -/
theorem ref_frame21 [Cert.Reference21Ideal.Facts] : Cert.quiescent_Reference21Ideal :=
  fun m g _ => (θ_run _ _ _).mono (fun r h => ⟨fun c => (h c).2, sem_eq_zero_of_no_sems (by decide) r.2⟩) (Cert.Reference21Ideal.Value.run m g)

/-- Program 21, the forward call at the end of the state-space branch, and its reference compute the same array. -/
theorem value21 [Cert.Kernel21Ideal.Facts] [Cert.Reference21Ideal.Facts] : Cert.algebraic_Kernel21Ideal_Reference21Ideal := by
  intro m g m' g' _ hagree
  refine ⟨_, Cert.Kernel21Ideal.Value.run_blocks m g, ?_⟩
  refine (θ_run _ _ _).mono (fun r h c => ⟨(h c).1.trans ?_, (h c).2⟩) (Cert.Reference21Ideal.Value.run m' g')
  obtain ⟨a0, a1, a2⟩ := hagree c
  rw [a0, a1, a2]
  refine (Cert.Reference21Ideal.Read.val_main_v16_eq _ _ _).trans (funext fun i => ?_)
  exact (Cert.Reference21Ideal.Tail.closed _ _ _ i).trans (congrFun (Cert.Kernel21Ideal.Tail.out3 m c) i).symm

end Cert.Proof

end
-- ==== Proof.XaSpec.lean ====
/- The cross-attention of one example as functions of the queries `q`, of the array `kv` that holds the keys (columns 0 to 1023) and the values
   (columns 1024 to 2047) side by side, and of the cotangent `ct` of the output: four heads of 256 columns each, 2048 rows against 256 keys. -/
module

public import proofs.«01_k».proof.Proof.Soft
public import Idealize.ShloMosaic.Lib.Pointwise

@[expose] public section

noncomputable section

namespace Cert.Xa

open Idealize.ShloMosaic Cert.Soft

abbrev A := (⟨2, ![2048, 1024]⟩ : Shape).Idx → EReal
abbrev AKV := (⟨2, ![256, 2048]⟩ : Shape).Idx → EReal

/-- Column `d` of head `h`. -/
abbrev col (h : Fin 4) (d : Fin 256) : Fin 1024 := ⟨h.val * 256 + d.val, by omega⟩

/-- The same column among the keys, and among the values. -/
abbrev kc (l : Fin 1024) : Fin 2048 := ⟨l.val, by omega⟩
abbrev vc (l : Fin 1024) : Fin 2048 := ⟨1024 + l.val, by omega⟩

/-- A column's head. -/
abbrev hd (l : Fin 1024) : Fin 4 := ⟨l.val / 256, by omega⟩

/-- The scale of the scores. -/
abbrev c : EReal := (((1 : ℝ) / 16 : ℝ) : EReal)

variable (q ct : A) (kv : AKV)

/-- The scores of row `r` in head `h`. -/
def sc (h : Fin 4) (r : Fin 2048) (j : Fin 256) : EReal := (∑ d : Fin 256, q (ix2 r (col h d)) * kv (ix2 j (kc (col h d)))) * c

/-- The gradient of a probability. -/
def dp (h : Fin 4) (r : Fin 2048) (j : Fin 256) : EReal := ∑ d : Fin 256, ct (ix2 r (col h d)) * kv (ix2 j (vc (col h d)))

/-- The gradient of a score. -/
def ds (h : Fin 4) (r : Fin 2048) (j : Fin 256) : EReal :=
  prob (sc q kv h r) j * (dp ct kv h r j - ∑ k, dp ct kv h r k * prob (sc q kv h r) k)

/-- The output, and the gradients of the queries, of the keys and of the values. -/
def o (r : Fin 2048) (l : Fin 1024) : EReal := ∑ j, prob (sc q kv (hd l) r) j * kv (ix2 j (vc l))
def dq (r : Fin 2048) (l : Fin 1024) : EReal := ∑ j, ds q ct kv (hd l) r j * c * kv (ix2 j (kc l))
def dk (j : Fin 256) (l : Fin 1024) : EReal := ∑ r, ds q ct kv (hd l) r j * c * q (ix2 r l)
def dv (j : Fin 256) (l : Fin 1024) : EReal := ∑ r, prob (sc q kv (hd l) r) j * ct (ix2 r l)

/-- Finite queries and keys. -/
def Fin' : Prop := (∀ i, ∃ x : ℝ, q i = x) ∧ ∀ (j : Fin 256) (l : Fin 1024), ∃ x : ℝ, kv (ix2 j (kc l)) = x

variable {q kv}

/-- Their scores are finite, so every row is one with a softmax. -/
theorem Fin'.good (hf : Fin' q kv) (h : Fin 4) (r : Fin 2048) : Good (sc q kv h r) := by
  have hr : ∀ j, ∃ x : ℝ, sc q kv h r j = x := fun j =>
    mul_real (sum_real _ _ fun d _ => mul_real (hf.1 _) (hf.2 _ _)) ⟨_, rfl⟩
  refine ⟨fun j => ?_, 0, ?_⟩
  · obtain ⟨x, hx⟩ := hr j; rw [hx]; exact EReal.coe_ne_top x
  · obtain ⟨x, hx⟩ := hr 0; rw [hx]; exact EReal.coe_ne_bot x

/-- A score from queries that were scaled first. -/
theorem sc_scaled (h : Fin 4) (r : Fin 2048) (j : Fin 256) :
    ∑ d : Fin 256, q (ix2 r (col h d)) * c * kv (ix2 j (kc (col h d))) = sc q kv h r j := by
  rw [sc, sum_mul _ _ (by norm_num)]
  exact Finset.sum_congr rfl fun d _ => mul_right_comm _ _ _

end Cert.Xa

end
-- ==== Proof.XaRef.lean ====
/- The reference of the cross-attention, read at an index. -/
module

public import proofs.«01_k».proof.Proof.Gen.ReferenceIdeal.Read
public import proofs.«01_k».proof.Proof.XaSpec

@[expose] public section

set_option maxRecDepth 16384

noncomputable section

namespace Cert.ReferenceIdeal.XaRef

open Cert.ReferenceIdeal Cert.ReferenceIdeal.Read Idealize.ShloMosaic Idealize.ShloMosaic.TcCoe Idealize.SL.Sem Cert.Soft Cert.Xa

variable (q : (⟨S2048x1024, .f32⟩ : BufTy).Contents (Elt Ideal)) (kv : (⟨S256x2048, .f32⟩ : BufTy).Contents (Elt Ideal)) (ct : (⟨S2048x1024, .f32⟩ : BufTy).Contents (Elt Ideal))

theorem v7 (h : Fin 4) (r : Fin 2048) (j : Fin 256) : val_main_v7 (F := Ideal) q kv (ix3 h r j) = sc q kv h r j := by
  pointwise [val_main_v7, val_main_v6, val_main_cst, val_main_v5, val_main_v3, val_main_v2, val_main_v0]
  rw [sixteenth_f32]; rfl

/-- The maximum over the keys, of any scores that are given by a formula. -/
theorem max_read (x : FVec Ideal S4x2048x256 .f32) (h : Fin 4) (r : Fin 2048) :
    Host.reduce FloatOps.maximumf x (constant (F := Ideal) S_ .f32 0xFF800000#32) Gen.reducesTo_S4x2048x256_S4x2048_d2 Gen.h_S_ (ix2 h r)
      = Finset.univ.fold max (Ideal.ofBits .f32 0xFF800000#32) fun j => x (ix3 h r j) := by
  pointwise

theorem top_read (x : FVec Ideal S4x2048x256 .f32) (s : Fin 4 → Fin 2048 → Fin 256 → EReal) (hs : ∀ h r j, x (ix3 h r j) = s h r j)
    (h : Fin 4) (r : Fin 2048) :
    Finset.univ.fold max (Ideal.ofBits .f32 0xFF800000#32) (fun j => x (ix3 h r j)) = top (s h r) := by
  simp only [hs, top]

theorem v8 (h : Fin 4) (r : Fin 2048) : val_main_v8 (F := Ideal) q kv (ix2 h r) = top (sc q kv h r) :=
  (max_read _ h r).trans (top_read _ (sc q kv) (v7 q kv) h r)

theorem v15 (h : Fin 4) (r : Fin 2048) : val_main_v15 (F := Ideal) q kv (ix2 h r) = top (sc q kv h r) := by
  have h14 : val_main_v14 (F := Ideal) (ix2 h r) = ⊥ := by rw [val_main_v14_apply]; exact ninf
  rw [val_main_v15_apply, h14, v8]
  exact max_eq_right bot_le

theorem v28 (h : Fin 4) (r : Fin 2048) (j : Fin 256) : val_main_v28 (F := Ideal) q kv (ix3 h r j) = wt (sc q kv h r) j := by
  have h15 := v15 q kv h r
  have h7 := v7 q kv h r j
  unfold val_main_v28 val_main_v27 val_main_v26 val_main_v25
  generalize val_main_v15 (F := Ideal) q kv = x at h15
  generalize val_main_v7 (F := Ideal) q kv = y at h7
  pointwise
  rw [h7, h15, wt]

theorem v29 (h : Fin 4) (r : Fin 2048) : val_main_v29 (F := Ideal) q kv (ix2 h r) = den (sc q kv h r) := by
  pointwise [val_main_v29, val_main_cst_8]
  simp only [v28]; rfl

theorem v32 (h : Fin 4) (r : Fin 2048) (j : Fin 256) : val_main_v32 (F := Ideal) q kv (ix3 h r j) = prob (sc q kv h r) j := by
  pointwise [val_main_v32, val_main_v31, val_main_v30]
  rw [v28, v29]; rfl

theorem v41 (h : Fin 4) (r : Fin 2048) (j : Fin 256) : val_main_v41 (F := Ideal) kv ct (ix3 h r j) = dp ct kv h r j := by
  pointwise [val_main_v41, val_main_v40, val_main_v39, val_main_v4, val_main_v1]
  rfl

theorem v57 (hf : Fin' q kv) (h : Fin 4) (r : Fin 2048) (j : Fin 256) : val_main_v57 (F := Ideal) q kv ct (ix3 h r j) = ds q ct kv h r j * c := by
  pointwise [val_main_v57, val_main_v56, val_main_v55, val_main_v54, val_main_v53, val_main_v52, val_main_v51, val_main_v50, val_main_v49,
    val_main_v48, val_main_v47, val_main_v46, val_main_v45, val_main_v44, val_main_v35, val_main_v34, val_main_v33, val_main_v30,
    val_main_cst_9, val_main_cst_10, val_main_cst_11, val_main_cst_12]
  simp only [v28, v29, v41]
  rw [sixteenth_f32, ds, (hf.good h r).grad, Finset.univ_unique, Finset.sum_singleton]

theorem o_ref (r : Fin 2048) (l : Fin 1024) : val_main_v38 (F := Ideal) q kv (ix2 r l) = o q kv r l := by
  pointwise [val_main_v38, val_main_v37, val_main_v36, val_main_v4, val_main_v1]
  simp only [v32]
  exact Finset.sum_congr rfl fun _ _ => mul_comm _ _

theorem dq_ref (hf : Fin' q kv) (r : Fin 2048) (l : Fin 1024) : val_main_v64 (F := Ideal) q kv ct (ix2 r l) = dq q ct kv r l := by
  pointwise [val_main_v64, val_main_v61, val_main_v60, val_main_v3, val_main_v0]
  simp only [v57 q kv ct hf]
  rfl

theorem dk_ref (hf : Fin' q kv) (j : Fin 256) (l : Fin 1024) : val_main_v63 (F := Ideal) q kv ct (ix2 j l) = dk q ct kv j l := by
  pointwise [val_main_v63, val_main_v59, val_main_v58, val_main_v2]
  simp only [v57 q kv ct hf]
  rfl

theorem dv_ref (j : Fin 256) (l : Fin 1024) : val_main_v62 (F := Ideal) q kv ct (ix2 j l) = dv q ct kv j l := by
  pointwise [val_main_v62, val_main_v43, val_main_v42, val_main_v40, val_main_v39]
  simp only [v32]
  exact Finset.sum_congr rfl fun _ _ => mul_comm _ _

end Cert.ReferenceIdeal.XaRef

end
-- ==== Proof.XaRefRun.lean ====
/- The run of the reference: each result at its mathematics. -/
module

public import proofs.«01_k».proof.Proof.XaRef
public import proofs.«01_k».proof.Proof.Gen.ReferenceIdeal.Run

@[expose] public section

set_option maxRecDepth 16384

noncomputable section

namespace Cert.ReferenceIdeal.XaRef

open Cert.ReferenceIdeal Cert.ReferenceIdeal.Gen Cert.ReferenceIdeal.Read Idealize.ShloMosaic Idealize.ShloMosaic.TcCoe Idealize.SL.Sem Cert.Xa

variable (m : (ℓ : Loc nD τ sig) → Buf (Elt Ideal) ℓ) (g : Dev nD → PrngReg)
  (hf : ∀ c : Dev nD, Fin' (m ((c.tc : Thread nD τ).loc main_arg0)) (m ((c.tc : Thread nD τ).loc main_arg1)))
include hf

theorem results : θ_run defs (onTc (τ := τ) (main (F := Ideal))) ⟨m, fun _ => 0, g⟩ (fun r => ∀ c : Dev nD,
      r.2.mem ((c.tc : Thread nD τ).loc main_v38) = (fun i => o (m ((c.tc : Thread nD τ).loc main_arg0)) (m ((c.tc : Thread nD τ).loc main_arg1)) (i 0) (i 1))
      ∧ r.2.mem ((c.tc : Thread nD τ).loc main_v64) = (fun i => dq (m ((c.tc : Thread nD τ).loc main_arg0)) (m ((c.tc : Thread nD τ).loc main_arg2)) (m ((c.tc : Thread nD τ).loc main_arg1)) (i 0) (i 1))
      ∧ r.2.mem ((c.tc : Thread nD τ).loc main_v63) = (fun i => dk (m ((c.tc : Thread nD τ).loc main_arg0)) (m ((c.tc : Thread nD τ).loc main_arg2)) (m ((c.tc : Thread nD τ).loc main_arg1)) (i 0) (i 1))
      ∧ r.2.mem ((c.tc : Thread nD τ).loc main_v62) = (fun i => dv (m ((c.tc : Thread nD τ).loc main_arg0)) (m ((c.tc : Thread nD τ).loc main_arg2)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Value.run m g)
  obtain ⟨ho, hq, hk, hv, h0, h1, h2⟩ := h c
  refine ⟨ho.trans ((val_main_v38_eq _ _).trans (funext fun i => ?_)), hq.trans ((val_main_v64_eq m c).trans (funext fun i => ?_)),
    hk.trans ((val_main_v63_eq m c).trans (funext fun i => ?_)), hv.trans ((val_main_v62_eq _ _ _).trans (funext fun i => ?_)), h0, h1, h2⟩
  all_goals idx_vars i
  · exact o_ref _ _ _ _
  · exact dq_ref _ _ _ (hf c) _ _
  · exact dk_ref _ _ _ (hf c) _ _
  · exact dv_ref _ _ _ _ _

end Cert.ReferenceIdeal.XaRef

end
-- ==== Proof.XaFwd.lean ====
/- The forward call of the cross-attention: what its two output arrays hold. -/
module

public import proofs.«01_k».proof.Proof.Gen.KernelIdeal.Frame
public import proofs.«01_k».proof.Proof.XaSpec
public import Idealize.ShloMosaic.Lib.Pipeline.ValueKit
public import Idealize.ShloMosaic.Lib.Pointwise

@[expose] public section

set_option maxRecDepth 16384

noncomputable section

namespace Cert.KernelIdeal.XaFwd

open Cert.KernelIdeal Cert.KernelIdeal.Gen Idealize.ShloMosaic Idealize.ShloMosaic.TcCoe Idealize.SL.Sem Cert.Soft Cert.Xa
open Idealize.ShloMosaic.Pipeline (Dat)

/-- The scores of one block of 512 rows, from queries scaled first. -/
def bs (A : S512x1024.Idx → EReal) (B : S256x1024.Idx → EReal) (h : Fin 4) (r : Fin 512) (j : Fin 256) : EReal :=
  ∑ d : Fin 256, A (ix2 r (col h d)) * c * B (ix2 j (col h d))

theorem out_o (A : S512x1024.Idx → EReal) (B C : S256x1024.Idx → EReal) (r : Fin 512) (l : Fin 1024) :
    out0_3 (F := Ideal) A B C (ix2 r l) = ∑ j, wt (bs A B (hd l) r) j * Ideal.div 1 (den (bs A B (hd l) r)) * C (ix2 j l) := by
  unfold_out out0_3
  generalize hy : (ix2 r l : S512x1024.Idx) = y
  have e0 : (y 0).val = r.val := by rw [← hy]; rfl
  have e1 : (y 1).val = l.val := by rw [← hy]; rfl
  canon_tiles x h
  all_goals
    have er : x 0 = r := Fin.ext (by omega)
    have el : ∀ hl, l = ⟨_, hl⟩ := fun hl => Fin.ext (e1.symm.trans h1)
    open_payloads
    pointwise
    first
      | rw [show hd l = 3 from Fin.ext (by show l.val / 256 = 3; omega)]
      | rw [show hd l = 2 from Fin.ext (by show l.val / 256 = 2; omega)]
      | rw [show hd l = 1 from Fin.ext (by show l.val / 256 = 1; omega)]
      | rw [show hd l = 0 from Fin.ext (by show l.val / 256 = 0; omega)]
    rw [el (lt_of_eq_of_lt (e1.symm.trans h1).symm l.isLt)]
    simp only [Ideal.ofBits_sixteenth_bf16, er, wt, den, top, bs, col]
    try simp only [show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]
    rfl

/-- The block of the rows' log-sum-exp. -/
theorem out_lse (A : S512x1024.Idx → EReal) (B C : S256x1024.Idx → EReal) (h : Fin 4) (r : Fin 512) :
    out0_4 (F := Ideal) A B C (ix3 h r 0) = lse (bs A B h r) := by
  unfold_out out0_4
  generalize hy : (ix3 h r 0 : S4x512x1.Idx) = y
  have e0 : (y 0).val = h.val := by rw [← hy]; rfl
  have e1 : (y 1).val = r.val := by rw [← hy]; rfl
  canon_tiles x h'
  all_goals
    have er : x 1 = r := Fin.ext (by omega)
    open_payloads
    pointwise
    first
      | rw [show h = 3 from Fin.ext (by show h.val = 3; omega)]
      | rw [show h = 2 from Fin.ext (by show h.val = 2; omega)]
      | rw [show h = 1 from Fin.ext (by show h.val = 1; omega)]
      | rw [show h = 0 from Fin.ext (by show h.val = 0; omega)]
    simp only [Ideal.ofBits_sixteenth_bf16, er, wt, den, top, bs, col, lse]
    try simp only [show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]
    rfl

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![0, 1] ∧ win0_3.index t = ![t.val, 0]
    ∧ win0_4.index t = ![0, t.val, 0] :=
  (by decide +kernel : ∀ t : Fin grid0.N, _)

/-- Row `r` of block `t`. -/
abbrev row (t : Fin cfg0.N) (r : Fin 512) : Fin 2048 := ⟨t.val * 512 + r.val, by have := t.isLt; have : cfg0.N = 4 := N_0; omega⟩

theorem blk_q (c : Dev nD) (t : Fin cfg0.N) (r : Fin 512) (l : Fin 1024) : iblk0 V c 0 t (ix2 r l) = V c main_arg0 (ix2 (row t r) l) := by
  blk_ext [iblk0, idx0 t]

theorem blk_k (c : Dev nD) (t : Fin cfg0.N) (j : Fin 256) (l : Fin 1024) : iblk0 V c 1 t (ix2 j l) = V c main_arg1 (ix2 j (kc l)) := by
  blk_ext [iblk0, idx0 t]

theorem blk_v (c : Dev nD) (t : Fin cfg0.N) (j : Fin 256) (l : Fin 1024) : iblk0 V c 2 t (ix2 j l) = V c main_arg1 (ix2 j (vc l)) := by
  blk_ext [iblk0, idx0 t]

theorem bs_eq (c : Dev nD) (t : Fin cfg0.N) (h : Fin 4) (r : Fin 512) :
    bs (iblk0 V c 0 t) (iblk0 V c 1 t) h r = sc (V c main_arg0) (V c main_arg1) h (row t r) := by
  funext j
  rw [← sc_scaled]
  unfold bs
  exact Finset.sum_congr rfl fun d _ => by rw [blk_q, blk_k]

/-- The output of the call. -/
theorem fin_o (c : Dev nD) (hf : Fin' (V c main_arg0) (V c main_arg1)) :
    (dat0 V c).arrAt 3 cfg0.N = fun i => o (V c main_arg0) (V c main_arg1) (i 0) (i 1) := by
  refine (dat0 V c).arrAt_eq_of_covers 3 _ (by decide +kernel) fun t _ y => ?_
  blk_simp
  rw [after0_3]
  idx_vars y
  have hi : ((View.whole main_v0_0).slice (win0_3.rect t)).emb (ix2 y0 y1) = ix2 (row t y0) y1 := by blk_ext [idx0 t]
  rw [hi, out_o]
  show _ = ∑ j, prob (sc (V c main_arg0) (V c main_arg1) (hd y1) (row t y0)) j * V c main_arg1 (ix2 j (vc y1))
  rw [bs_eq]
  exact Finset.sum_congr rfl fun j _ => by rw [(hf.good _ _).wt_mul, blk_v]

/-- The rows' log-sum-exp. -/
theorem fin_lse (c : Dev nD) :
    (dat0 V c).arrAt 4 cfg0.N = fun i => lse (sc (V c main_arg0) (V c main_arg1) (i 0) (i 1)) := by
  refine (dat0 V c).arrAt_eq_of_covers 4 _ (by decide +kernel) fun t _ y => ?_
  blk_simp
  rw [after0_4]
  idx_vars y
  have hi : ((View.whole main_v0_1).slice (win0_4.rect t)).emb (ix3 y0 y1 y2) = ix3 y0 (row t y1) y2 := by blk_ext [idx0 t]
  rw [hi, show y2 = 0 from Subsingleton.elim _ _, out_lse, bs_eq]
  rfl

end Cert.KernelIdeal.XaFwd

end
-- ==== Proof.XaBwd.lean ====
/- The backward call of the cross-attention: what its three output arrays hold. -/
module

public import proofs.«01_k».proof.Proof.XaFwd
public import Idealize.ShloMosaic.Lib.Pipeline.ReadBack

@[expose] public section

set_option maxRecDepth 16384

noncomputable section

namespace Cert.KernelIdeal.XaBwd

open Cert.KernelIdeal Cert.KernelIdeal.Gen Cert.KernelIdeal.XaFwd Idealize.ShloMosaic Idealize.ShloMosaic.TcCoe Idealize.SL.Sem Cert.Soft Cert.Xa
open Idealize.ShloMosaic.Pipeline (Dat)

section Block

variable (A D : Vec Ideal S512x1024 .f32) (B C : Vec Ideal S256x1024 .f32) (L : Vec Ideal S4x512x1 .f32)

/-- In one block of 512 rows: a probability, from the row's log-sum-exp; -/
def pr (h : Fin 4) (r : Fin 512) (j : Fin 256) : EReal := Ideal.exp (bs A B h r j - L (ix3 h r 0))

/-- the gradient of a probability, -/
def bp (h : Fin 4) (r : Fin 512) (j : Fin 256) : EReal := ∑ d : Fin 256, D (ix2 r (col h d)) * C (ix2 j (col h d))

/-- the gradient of a score; -/
def bd (h : Fin 4) (r : Fin 512) (j : Fin 256) : EReal := pr A B L h r j * (bp D C h r j - ∑ k, bp D C h r k * pr A B L h r k)

/-- the block's rows of the gradient of the queries; -/
def pq (r : Fin 512) (l : Fin 1024) : EReal := (∑ j : Fin 256, bd A D B C L (hd l) r j * B (ix2 j l)) * c

/-- and the block's share of the gradients of the keys and of the values. -/
def pk (j : Fin 256) (l : Fin 1024) : EReal := ∑ r : Fin 512, bd A D B C L (hd l) r j * (A (ix2 r l) * c)
def pv (j : Fin 256) (l : Fin 1024) : EReal := ∑ r : Fin 512, pr A B L (hd l) r j * D (ix2 r l)

end Block

theorem hd_col (h : Fin 4) (x : Fin 256) : hd (col h x) = h := Fin.ext (by show (h.val * 256 + x.val) / 256 = h.val; omega)

/-- Where some piece covers an index, what was stored before the pieces is not seen there. -/
theorem canon_drop {S : Shape} {e : EltTy} : ∀ (L L' : List (View.Piece (Elt Ideal) S e)) (y : S.Idx),
    (∃ p ∈ L, y ∈ p.1.set) → View.canon (L ++ L') y = View.canon L y
  | [], _, _, h => by obtain ⟨p, hp, _⟩ := h; exact absurd hp List.not_mem_nil
  | p :: L, L', y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_drop L L' y ?_
      obtain ⟨q, hq, hyq⟩ := h
      rcases List.mem_cons.mp hq with rfl | hq'
      · exact absurd hyq hm
      · exact ⟨q, hq', hyq⟩

variable (V : (c : Dev nD) → (b : Ref sig .tc) → Buf (Elt Ideal) ((c : Thread nD τ).loc b))

theorem q_A (c : Dev nD) (t : Fin cfg1.N) (r : Fin 512) (l : Fin 1024) (h0 : t.val % 4 = 0) :
    (outsAt1 V c t.val t.isLt).1 (ix2 r l) = pq (iblk1 V c 0 t) (iblk1 V c 4 t) (iblk1 V c 1 t) (iblk1 V c 2 t) (iblk1 V c 3 t) r l := by
  rw [outsAt1_A V c t h0]
  frame_out
  generalize iblk1 V c 0 t = A
  generalize iblk1 V c 1 t = B
  generalize iblk1 V c 2 t = C
  generalize iblk1 V c 3 t = L
  generalize iblk1 V c 4 t = D

  generalize hy : (ix2 r l : S512x1024.Idx) = y
  have e0 : (y 0).val = r.val := by rw [← hy]; rfl
  have e1 : (y 1).val = l.val := by rw [← hy]; rfl
  canon_tiles x h
  all_goals
    obtain rfl : r = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pq, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

theorem q_B (c : Dev nD) (t : Fin cfg1.N) (r : Fin 512) (l : Fin 1024) (h0 : ¬ t.val % 4 = 0) :
    (outsAt1 V c t.val t.isLt).1 (ix2 r l) = pq (iblk1 V c 0 t) (iblk1 V c 4 t) (iblk1 V c 1 t) (iblk1 V c 2 t) (iblk1 V c 3 t) r l := by
  rw [outsAt1_B V c t h0]
  frame_out
  generalize iblk1 V c 0 t = A
  generalize iblk1 V c 1 t = B
  generalize iblk1 V c 2 t = C
  generalize iblk1 V c 3 t = L
  generalize iblk1 V c 4 t = D

  generalize hy : (ix2 r l : S512x1024.Idx) = y
  have e0 : (y 0).val = r.val := by rw [← hy]; rfl
  have e1 : (y 1).val = l.val := by rw [← hy]; rfl
  canon_tiles x h
  all_goals
    obtain rfl : r = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pq, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

theorem k_A (c : Dev nD) (t : Fin cfg1.N) (j : Fin 256) (l : Fin 1024) (h0 : t.val % 4 = 0) :
    (outsAt1 V c t.val t.isLt).2.1 (ix2 j l) = 0 + pk (iblk1 V c 0 t) (iblk1 V c 4 t) (iblk1 V c 1 t) (iblk1 V c 2 t) (iblk1 V c 3 t) j l := by
  rw [outsAt1_A V c t h0]
  frame_out
  simp (disch := first | rfl | decide | (intro a; fin_cases a <;> rfl)) only [↓View.readCov_skip, ↓View.readCov_fill]
  refine (canon_drop [_, _, _, _] [_] _ (View.cover_of_tiled_head _ _ _ rfl _)).trans ?_
  generalize iblk1 V c 0 t = A
  generalize iblk1 V c 1 t = B
  generalize iblk1 V c 2 t = C
  generalize iblk1 V c 3 t = L
  generalize iblk1 V c 4 t = D

  generalize hy : (ix2 j l : S256x1024.Idx) = y
  have e0 : (y 0).val = j.val := by rw [← hy]; rfl
  have e1 : (y 1).val = l.val := by rw [← hy]; rfl
  canon_tiles x h
  all_goals
    obtain rfl : j = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pk, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

theorem k_B (c : Dev nD) (t : Fin cfg1.N) (j : Fin 256) (l : Fin 1024) (h0 : ¬ t.val % 4 = 0) :
    (outsAt1 V c t.val t.isLt).2.1 (ix2 j l) = (outsAt1 V c (t.val - 1) (Nat.lt_of_le_of_lt (Nat.sub_le _ _) t.isLt)).2.1 (ix2 j l)
      + pk (iblk1 V c 0 t) (iblk1 V c 4 t) (iblk1 V c 1 t) (iblk1 V c 2 t) (iblk1 V c 3 t) j l := by
  rw [outsAt1_B V c t h0]
  frame_out
  generalize iblk1 V c 0 t = A
  generalize iblk1 V c 1 t = B
  generalize iblk1 V c 2 t = C
  generalize iblk1 V c 3 t = L
  generalize iblk1 V c 4 t = D
  generalize (outsAt1 V c (t.val - 1) _).2.1 = P
  generalize hy : (ix2 j l : S256x1024.Idx) = y
  have e0 : (y 0).val = j.val := by rw [← hy]; rfl
  have e1 : (y 1).val = l.val := by rw [← hy]; rfl
  canon_tiles x h
  all_goals
    obtain rfl : j = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pk, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

theorem v_A (c : Dev nD) (t : Fin cfg1.N) (j : Fin 256) (l : Fin 1024) (h0 : t.val % 4 = 0) :
    (outsAt1 V c t.val t.isLt).2.2 (ix2 j l) = 0 + pv (iblk1 V c 0 t) (iblk1 V c 4 t) (iblk1 V c 1 t) (iblk1 V c 3 t) j l := by
  rw [outsAt1_A V c t h0]
  frame_out
  simp (disch := first | rfl | decide | (intro a; fin_cases a <;> rfl)) only [↓View.readCov_skip, ↓View.readCov_fill]
  refine (canon_drop [_, _, _, _] [_] _ (View.cover_of_tiled_head _ _ _ rfl _)).trans ?_
  generalize iblk1 V c 0 t = A
  generalize iblk1 V c 1 t = B
  generalize iblk1 V c 2 t = C
  generalize iblk1 V c 3 t = L
  generalize iblk1 V c 4 t = D

  generalize hy : (ix2 j l : S256x1024.Idx) = y
  have e0 : (y 0).val = j.val := by rw [← hy]; rfl
  have e1 : (y 1).val = l.val := by rw [← hy]; rfl
  canon_tiles x h
  all_goals
    obtain rfl : j = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pv, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

theorem v_B (c : Dev nD) (t : Fin cfg1.N) (j : Fin 256) (l : Fin 1024) (h0 : ¬ t.val % 4 = 0) :
    (outsAt1 V c t.val t.isLt).2.2 (ix2 j l) = (outsAt1 V c (t.val - 1) (Nat.lt_of_le_of_lt (Nat.sub_le _ _) t.isLt)).2.2 (ix2 j l)
      + pv (iblk1 V c 0 t) (iblk1 V c 4 t) (iblk1 V c 1 t) (iblk1 V c 3 t) j l := by
  rw [outsAt1_B V c t h0]
  frame_out
  generalize iblk1 V c 0 t = A
  generalize iblk1 V c 1 t = B
  generalize iblk1 V c 2 t = C
  generalize iblk1 V c 3 t = L
  generalize iblk1 V c 4 t = D
  generalize (outsAt1 V c (t.val - 1) _).2.2 = P
  generalize hy : (ix2 j l : S256x1024.Idx) = y
  have e0 : (y 0).val = j.val := by rw [← hy]; rfl
  have e1 : (y 1).val = l.val := by rw [← hy]; rfl
  canon_tiles x h
  all_goals
    obtain rfl : j = x 0 := Fin.ext (by omega)
    idx_vars x
    first
      | rw [show l = col 3 x1 from Fin.ext (by show l.val = 3 * 256 + x1.val; omega)] at hy ⊢
      | rw [show l = col 2 x1 from Fin.ext (by show l.val = 2 * 256 + x1.val; omega)] at hy ⊢
      | rw [show l = col 1 x1 from Fin.ext (by show l.val = 1 * 256 + x1.val; omega)] at hy ⊢
      | rw [show l = col 0 x1 from Fin.ext (by show l.val = 0 * 256 + x1.val; omega)] at hy ⊢
    subst hy
    clear e0 e1 h0 h1
    simp only [pv, hd_col]
    open_payloads
    pointwise
    simp only [Ideal.ofBits_sixteenth_bf16, Soft.sixteenth_f32, bd, pr, bp, bs, Xa.c, col, show ((3 : Fin 4) : ℕ) * 256 = 768 from rfl, show ((2 : Fin 4) : ℕ) * 256 = 512 from rfl, show ((1 : Fin 4) : ℕ) * 256 = 256 from rfl, show ((0 : Fin 4) : ℕ) * 256 = 0 from rfl, zero_add]

end Cert.KernelIdeal.XaBwd

end
-- ==== Proof.XaOut.lean ====
/- The backward call of the cross-attention, over the whole arrays: the gradients of the queries, of the keys and of the values. -/
module

public import proofs.«01_k».proof.Proof.XaBwd

@[expose] public section

set_option maxRecDepth 16384

noncomputable section

namespace Cert.KernelIdeal.XaOut

open Cert.KernelIdeal Cert.KernelIdeal.Gen Cert.KernelIdeal.XaFwd Cert.KernelIdeal.XaBwd Idealize.ShloMosaic Idealize.ShloMosaic.TcCoe Idealize.SL.Sem Cert.Soft Cert.Xa
open Idealize.ShloMosaic.Pipeline (Dat)

variable (V : (c : Dev nD) → (b : Ref sig .tc) → Buf (Elt Ideal) ((c : Thread nD τ).loc b))

/-- Which block of each array a point works on. -/
theorem idx1 : ∀ t : Fin cfg1.N, win1_0.index t = ![t.val, 0] ∧ win1_1.index t = ![0, 0] ∧ win1_2.index t = ![0, 1] ∧ win1_3.index t = ![0, t.val, 0]
    ∧ win1_4.index t = ![t.val, 0] ∧ win1_5.index t = ![t.val, 0] :=
  (by decide +kernel : ∀ t : Fin grid1.N, _)

/-- Row `r` of block `t`. -/
abbrev row (t : Fin cfg1.N) (r : Fin 512) : Fin 2048 := ⟨t.val * 512 + r.val, by have := t.isLt; have : cfg1.N = 4 := N_1; omega⟩

theorem blk_q (c : Dev nD) (t : Fin cfg1.N) (r : Fin 512) (l : Fin 1024) : iblk1 V c 0 t (ix2 r l) = V c main_arg0 (ix2 (row t r) l) := by
  blk_ext [iblk1, idx1 t]

theorem blk_k (c : Dev nD) (t : Fin cfg1.N) (j : Fin 256) (l : Fin 1024) : iblk1 V c 1 t (ix2 j l) = V c main_arg1 (ix2 j (kc l)) := by
  blk_ext [iblk1, idx1 t]

theorem blk_v (c : Dev nD) (t : Fin cfg1.N) (j : Fin 256) (l : Fin 1024) : iblk1 V c 2 t (ix2 j l) = V c main_arg1 (ix2 j (vc l)) := by
  blk_ext [iblk1, idx1 t]

theorem blk_lse (c : Dev nD) (t : Fin cfg1.N) (h : Fin 4) (r : Fin 512) : iblk1 V c 3 t (ix3 h r 0) = V c main_v0_1 (ix3 h (row t r) 0) := by
  blk_ext [iblk1, idx1 t]

theorem blk_ct (c : Dev nD) (t : Fin cfg1.N) (r : Fin 512) (l : Fin 1024) : iblk1 V c 4 t (ix2 r l) = V c main_arg2 (ix2 (row t r) l) := by
  blk_ext [iblk1, idx1 t]

variable (c : Dev nD) (hf : Fin' (V c main_arg0) (V c main_arg1))
  (hs : V c main_v0_1 = fun i => lse (sc (V c main_arg0) (V c main_arg1) (i 0) (i 1)))

include hf hs

theorem pr_eq (t : Fin cfg1.N) (h : Fin 4) (r : Fin 512) (j : Fin 256) :
    pr (iblk1 V c 0 t) (iblk1 V c 1 t) (iblk1 V c 3 t) h r j = prob (sc (V c main_arg0) (V c main_arg1) h (row t r)) j := by
  rw [pr, blk_lse, hs, ← (hf.good h (row t r)).exp_lse, ← sc_scaled]
  refine congrArg (fun s => Ideal.exp (s - _)) ?_
  exact Finset.sum_congr rfl fun d _ => by rw [blk_q, blk_k]

theorem bd_eq (t : Fin cfg1.N) (h : Fin 4) (r : Fin 512) (j : Fin 256) :
    bd (iblk1 V c 0 t) (iblk1 V c 4 t) (iblk1 V c 1 t) (iblk1 V c 2 t) (iblk1 V c 3 t) h r j
      = ds (V c main_arg0) (V c main_arg2) (V c main_arg1) h (row t r) j := by
  have hb : ∀ k, bp (iblk1 V c 4 t) (iblk1 V c 2 t) h r k = dp (V c main_arg2) (V c main_arg1) h (row t r) k := fun k =>
    Finset.sum_congr rfl fun d _ => by rw [blk_ct, blk_v]
  rw [bd, ds, pr_eq V c hf hs, hb]
  refine congrArg (fun s : EReal => prob (sc (V c main_arg0) (V c main_arg1) h (row t r)) j * (dp (V c main_arg2) (V c main_arg1) h (row t r) j - s)) ?_
  exact Finset.sum_congr rfl fun k _ => by rw [hb, pr_eq V c hf hs]

/-- The gradient of the queries. -/
theorem fin_dq : (dat1 V c).arrAt 5 cfg1.N = fun i => dq (V c main_arg0) (V c main_arg2) (V c main_arg1) (i 0) (i 1) := by
  refine (dat1 V c).arrAt_eq_of_covers 5 _ (by decide +kernel) fun t _ y => ?_
  blk_simp
  rw [after1_5]
  idx_vars y
  have hi : ((View.whole main_v1_0).slice (win1_5.rect t)).emb (ix2 y0 y1) = ix2 (row t y0) y1 := by blk_ext [idx1 t]
  have hb : (outsAt1 V c t.val t.isLt).1 (ix2 y0 y1) = pq (iblk1 V c 0 t) (iblk1 V c 4 t) (iblk1 V c 1 t) (iblk1 V c 2 t) (iblk1 V c 3 t) y0 y1 := by
    by_cases h0 : t.val % 4 = 0
    · exact q_A V c t y0 y1 h0
    · exact q_B V c t y0 y1 h0
  rw [hi, hb]
  show _ = ∑ j, ds (V c main_arg0) (V c main_arg2) (V c main_arg1) (hd y1) (row t y0) j * Xa.c * V c main_arg1 (ix2 j (kc y1))
  rw [pq, sum_mul _ _ (by norm_num)]
  exact Finset.sum_congr rfl fun j _ => by rw [bd_eq V c hf hs, blk_k, mul_right_comm]

/-- The gradient of the keys. -/
theorem fin_dk : (dat1 V c).arrAt 6 cfg1.N = fun i => dk (V c main_arg0) (V c main_arg2) (V c main_arg1) (i 0) (i 1) := by
  refine (dat1 V c).arrAt_eq_of_after_last 6 t1_3 (by decide +kernel) _ fun y => ?_
  blk_simp
  rw [after1_6]
  idx_vars y
  have h := Pipeline.eq_sum_fin_of_reset_step_apply_last (fun n h => (outsAt1 V c n h).2.1) 4 (fun _ => 0)
    (fun t i => pk (iblk1 V c 0 t) (iblk1 V c 4 t) (iblk1 V c 1 t) (iblk1 V c 2 t) (iblk1 V c 3 t) (i 0) (i 1))
    (fun t h j => by idx_vars j; exact k_A V c t j0 j1 h) (fun t h j => by idx_vars j; exact k_B V c t j0 j1 h) (le_of_eq N_1) t1_3 rfl (ix2 y0 y1)
  refine h.trans ?_
  rw [zero_add]
  refine Fin.sum_mul_add_congr (n := 512) fun t r hl => ?_
  show bd (iblk1 V c 0 t) (iblk1 V c 4 t) (iblk1 V c 1 t) (iblk1 V c 2 t) (iblk1 V c 3 t) (hd y1) r y0 * @HMul.hMul EReal EReal EReal _ (iblk1 V c 0 t (ix2 r y1)) Xa.c = _
  rw [bd_eq V c hf hs, blk_q, mul_assoc, mul_comm Xa.c]

/-- The gradient of the values. -/
theorem fin_dv : (dat1 V c).arrAt 7 cfg1.N = fun i => dv (V c main_arg0) (V c main_arg2) (V c main_arg1) (i 0) (i 1) := by
  refine (dat1 V c).arrAt_eq_of_after_last 7 t1_3 (by decide +kernel) _ fun y => ?_
  blk_simp
  rw [after1_7]
  idx_vars y
  have h := Pipeline.eq_sum_fin_of_reset_step_apply_last (fun n h => (outsAt1 V c n h).2.2) 4 (fun _ => 0)
    (fun t i => pv (iblk1 V c 0 t) (iblk1 V c 4 t) (iblk1 V c 1 t) (iblk1 V c 3 t) (i 0) (i 1))
    (fun t h j => by idx_vars j; exact v_A V c t j0 j1 h) (fun t h j => by idx_vars j; exact v_B V c t j0 j1 h) (le_of_eq N_1) t1_3 rfl (ix2 y0 y1)
  refine h.trans ?_
  rw [zero_add]
  refine Fin.sum_mul_add_congr (n := 512) fun t r hl => ?_
  show @HMul.hMul EReal EReal EReal _ (pr (iblk1 V c 0 t) (iblk1 V c 1 t) (iblk1 V c 3 t) (hd y1) r y0) (iblk1 V c 4 t (ix2 r y1)) = _
  rw [pr_eq V c hf hs, blk_ct]

end Cert.KernelIdeal.XaOut

end
-- ==== Proof.XaRun.lean ====
/- The run of the two calls of the cross-attention: every buffer ends at the contents of the last boundary, and so each result at its mathematics. -/
module

public import proofs.«01_k».proof.Proof.XaOut

@[expose] public section

set_option maxRecDepth 16384

noncomputable section

namespace Cert.KernelIdeal.XaRun

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every buffer outside a call ends at the contents of the last boundary. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

/-- The arguments, as the second call finds them, -/
theorem V1_args (c : Dev nD) : V1 m ρ c main_arg0 = m ((c : Thread nD τ).loc main_arg0) ∧ V1 m ρ c main_arg1 = m ((c : Thread nD τ).loc main_arg1)
    ∧ V1 m ρ c main_arg2 = m ((c : Thread nD τ).loc main_arg2) :=
  ⟨W1_args m ρ c main_arg0 (by decide), W1_args m ρ c main_arg1 (by decide), W1_args m ρ c main_arg2 (by decide)⟩

variable (hf : ∀ c : Dev nD, Xa.Fin' (m ((c : Thread nD τ).loc main_arg0)) (m ((c : Thread nD τ).loc main_arg1)))
include hf

/-- and each result at the end. -/
theorem results : θ_run defs (onTc (τ := τ) (main (F := Ideal))) ⟨m, fun _ => 0, ρ⟩ (fun r => ∀ c : Dev nD,
      r.2.mem ((c.tc : Thread nD τ).loc main_v0_0) = (fun i => Xa.o (m ((c : Thread nD τ).loc main_arg0)) (m ((c : Thread nD τ).loc main_arg1)) (i 0) (i 1))
      ∧ r.2.mem ((c.tc : Thread nD τ).loc main_v1_0) = (fun i => Xa.dq (m ((c : Thread nD τ).loc main_arg0)) (m ((c : Thread nD τ).loc main_arg2)) (m ((c : Thread nD τ).loc main_arg1)) (i 0) (i 1))
      ∧ r.2.mem ((c.tc : Thread nD τ).loc main_v1_1) = (fun i => Xa.dk (m ((c : Thread nD τ).loc main_arg0)) (m ((c : Thread nD τ).loc main_arg2)) (m ((c : Thread nD τ).loc main_arg1)) (i 0) (i 1))
      ∧ r.2.mem ((c.tc : Thread nD τ).loc main_v1_2) = (fun i => Xa.dv (m ((c : Thread nD τ).loc main_arg0)) (m ((c : Thread nD τ).loc main_arg2)) (m ((c : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  obtain ⟨e0, e1, e2⟩ := V1_args m ρ c
  have hf1 : Xa.Fin' (V1 m ρ c main_arg0) (V1 m ρ c main_arg1) := by rw [e0, e1]; exact hf c
  have hs : V1 m ρ c main_v0_1 = fun i => Soft.lse (Xa.sc (V1 m ρ c main_arg0) (V1 m ρ c main_arg1) (i 0) (i 1)) := by
    rw [e0, e1]
    exact (W1_arr m ρ c 4).trans (XaFwd.fin_lse (V0 m ρ) c)
  refine ⟨?_, ?_, ?_, ?_, (h c _ (mem_uc main_arg0 (by decide))).trans (W2_main_arg0 m ρ c),
    (h c _ (mem_uc main_arg1 (by decide))).trans (W2_main_arg1 m ρ c), (h c _ (mem_uc main_arg2 (by decide))).trans (W2_main_arg2 m ρ c)⟩
  · refine (h c _ (mem_uc main_v0_0 (by decide))).trans ((W2_of m ρ c main_v0_0 (by decide)).trans ?_)
    exact (W1_arr m ρ c 3).trans (XaFwd.fin_o (V0 m ρ) c (hf c))
  · refine (h c _ (mem_uc main_v1_0 (by decide))).trans ((W2_arr m ρ c 5).trans ?_)
    rw [XaOut.fin_dq (V1 m ρ) c hf1 hs, e0, e1, e2]
  · refine (h c _ (mem_uc main_v1_1 (by decide))).trans ((W2_arr m ρ c 6).trans ?_)
    rw [XaOut.fin_dk (V1 m ρ) c hf1 hs, e0, e1, e2]
  · refine (h c _ (mem_uc main_v1_2 (by decide))).trans ((W2_arr m ρ c 7).trans ?_)
    rw [XaOut.fin_dv (V1 m ρ) c hf1 hs, e0, e1, e2]

end Cert.KernelIdeal.XaRun

end
-- ==== Proof.lean ====
module

public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.MmInDx
public import proofs.«01_k».proof.Proof.MmInDw
public import proofs.«01_k».proof.Proof.MmUpDx
public import proofs.«01_k».proof.Proof.MmUpDw
public import proofs.«01_k».proof.Proof.MmDownDx
public import proofs.«01_k».proof.Proof.MmDownDw
public import proofs.«01_k».proof.Proof.MmRef
public import proofs.«01_k».proof.Proof.FwdValues
public import proofs.«01_k».proof.Proof.GateValues
public import proofs.«01_k».proof.Proof.NormValues
public import proofs.«01_k».proof.Proof.RowValues
public import proofs.«01_k».proof.Proof.XaRefRun
public import proofs.«01_k».proof.Proof.XaRun
public import Idealize.ShloMosaic.Adequacy
public import Idealize.ShloMosaic.Init

@[expose] public section

noncomputable section

namespace Cert.Proof

open Idealize.ShloMosaic Idealize.ShloMosaic.TcCoe Idealize.SL.Sem Cert.Xa

/-- The facts the precondition states. -/
instance preFacts : Cert.Pre_finite_scores.Facts where
  bcast_S_S2048x1024 := by decide
  slices_S256x2048_S256x1024_0_0 := by decide
  bcast_S_S256x1024 := by decide

/-- The precondition says that the queries and the keys are finite. -/
theorem fin_of_pre (q : A) (kv : AKV) (ct : A) (h : (Cert.Pre_finite_scores.fn (F := Ideal) q kv ct).1 = (fun _ => 1#1) ∧ (Cert.Pre_finite_scores.fn (F := Ideal) q kv ct).2 = (fun _ => 1#1)) :
    Fin' q kv := by
  refine ⟨fun i => real_of_bit _ (congrFun h.1 i), fun j l => ?_⟩
  have e := real_of_bit _ (congrFun h.2 (ix2 j l))
  obtain ⟨r, hr⟩ := e
  exact ⟨r, (show kv (ix2 j (kc l)) = extractStridedSlice Cert.Pre_finite_scores.S256x1024 ![0, 0] kv Cert.Pre_finite_scores.Facts.slices_S256x2048_S256x1024_0_0 (ix2 j l) by pointwise).trans hr⟩

/-- The reference leaves its arguments as they were, and has no semaphore. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2, sem_eq_zero_of_no_sems (by decide) r.2⟩) (Cert.ReferenceIdeal.Value.run m g)

/-- The reference of program 2 leaves its arguments as they were, and has no semaphore. -/
theorem ref_frame2 [Cert.Reference2Ideal.Facts] : Cert.quiescent_Reference2Ideal :=
  fun m g _ => (θ_run _ _ _).mono (fun r h => ⟨fun c => (h c).2, sem_eq_zero_of_no_sems (by decide) r.2⟩) (Cert.Reference2Ideal.Value.run m g)

/-- Program 2, the gradient of the rows in the product into the sublayers, and its reference compute the same array. -/
theorem value2 [Cert.Kernel2Ideal.Facts] [Cert.Reference2Ideal.Facts] : Cert.algebraic_Kernel2Ideal_Reference2Ideal := by
  intro m g m' g' _ hagree
  refine ⟨_, Cert.Kernel2Ideal.Value.run m g, ?_⟩
  refine (θ_run _ _ _).mono (fun r h c => ⟨(h c).1.trans ?_, (h c).2⟩) (Cert.Reference2Ideal.Value.run m' g')
  obtain ⟨a0, a1, a2⟩ := hagree c
  rw [a0, a1, a2]
  refine (Cert.Reference2Ideal.Read.val_main_v8_eq _ _ _).trans (funext fun i => ?_)
  exact (Cert.Reference2Ideal.Mm.closed _ _ _ i).trans (Cert.Kernel2Ideal.Mm.out_eq m c i).symm

/-- The reference of program 3 leaves its arguments as they were, and has no semaphore. -/
theorem ref_frame3 [Cert.Reference3Ideal.Facts] : Cert.quiescent_Reference3Ideal :=
  fun m g _ => (θ_run _ _ _).mono (fun r h => ⟨fun c => (h c).2, sem_eq_zero_of_no_sems (by decide) r.2⟩) (Cert.Reference3Ideal.Value.run m g)

/-- Program 3, the gradient of the weights in the product into the sublayers, and its reference compute the same array. -/
theorem value3 [Cert.Kernel3Ideal.Facts] [Cert.Reference3Ideal.Facts] : Cert.algebraic_Kernel3Ideal_Reference3Ideal := by
  intro m g m' g' _ hagree
  refine ⟨_, Cert.Kernel3Ideal.Value.run m g, ?_⟩
  refine (θ_run _ _ _).mono (fun r h c => ⟨(h c).1.trans ?_, (h c).2⟩) (Cert.Reference3Ideal.Value.run m' g')
  obtain ⟨a0, a1⟩ := hagree c
  rw [a0, a1]
  refine (Cert.Reference3Ideal.Read.val_main_v3_eq _ _).trans (funext fun i => ?_)
  exact (Cert.Reference3Ideal.Mm.closed _ _ i).trans (Cert.Kernel3Ideal.Mm.out_eq m c i).symm

/-- The reference of program 4 leaves its arguments as they were, and has no semaphore. -/
theorem ref_frame4 [Cert.Reference4Ideal.Facts] : Cert.quiescent_Reference4Ideal :=
  fun m g _ => (θ_run _ _ _).mono (fun r h => ⟨fun c => (h c).2, sem_eq_zero_of_no_sems (by decide) r.2⟩) (Cert.Reference4Ideal.Value.run m g)

/-- Program 4, the gradient of the rows in the product into the gate, and its reference compute the same array. -/
theorem value4 [Cert.Kernel4Ideal.Facts] [Cert.Reference4Ideal.Facts] : Cert.algebraic_Kernel4Ideal_Reference4Ideal := by
  intro m g m' g' _ hagree
  refine ⟨_, Cert.Kernel4Ideal.Value.run m g, ?_⟩
  refine (θ_run _ _ _).mono (fun r h c => ⟨(h c).1.trans ?_, (h c).2⟩) (Cert.Reference4Ideal.Value.run m' g')
  obtain ⟨a0, a1, a2⟩ := hagree c
  rw [a0, a1, a2]
  refine (Cert.Reference4Ideal.Read.val_main_v11_eq _ _ _).trans (funext fun i => ?_)
  exact (Cert.Reference4Ideal.Mm.closed _ _ _ i).trans (Cert.Kernel4Ideal.Mm.out_eq m c i).symm

/-- The reference of program 5 leaves its arguments as they were, and has no semaphore. -/
theorem ref_frame5 [Cert.Reference5Ideal.Facts] : Cert.quiescent_Reference5Ideal :=
  fun m g _ => (θ_run _ _ _).mono (fun r h => ⟨fun c => (h c).2, sem_eq_zero_of_no_sems (by decide) r.2⟩) (Cert.Reference5Ideal.Value.run m g)

/-- Program 5, the gradient of the weights in the product into the gate, and its reference compute the same array. -/
theorem value5 [Cert.Kernel5Ideal.Facts] [Cert.Reference5Ideal.Facts] : Cert.algebraic_Kernel5Ideal_Reference5Ideal := by
  intro m g m' g' _ hagree
  refine ⟨_, Cert.Kernel5Ideal.Value.run m g, ?_⟩
  refine (θ_run _ _ _).mono (fun r h c => ⟨(h c).1.trans ?_, (h c).2⟩) (Cert.Reference5Ideal.Value.run m' g')
  obtain ⟨a0, a1⟩ := hagree c
  rw [a0, a1]
  refine (Cert.Reference5Ideal.Read.val_main_v8_eq _ _).trans (funext fun i => ?_)
  exact (Cert.Reference5Ideal.Mm.closed _ _ i).trans (Cert.Kernel5Ideal.Mm.out_eq m c i).symm

/-- The reference of program 6 leaves its arguments as they were, and has no semaphore. -/
theorem ref_frame6 [Cert.Reference6Ideal.Facts] : Cert.quiescent_Reference6Ideal :=
  fun m g _ => (θ_run _ _ _).mono (fun r h => ⟨fun c => (h c).2, sem_eq_zero_of_no_sems (by decide) r.2⟩) (Cert.Reference6Ideal.Value.run m g)

/-- Program 6, the gradient of the rows in the product out of the gate, and its reference compute the same array. -/
theorem value6 [Cert.Kernel6Ideal.Facts] [Cert.Reference6Ideal.Facts] : Cert.algebraic_Kernel6Ideal_Reference6Ideal := by
  intro m g m' g' _ hagree
  refine ⟨_, Cert.Kernel6Ideal.Value.run_blocks m g, ?_⟩
  refine (θ_run _ _ _).mono (fun r h c => ⟨(h c).1.trans ?_, (h c).2⟩) (Cert.Reference6Ideal.Value.run m' g')
  obtain ⟨a0, a1⟩ := hagree c
  rw [a0, a1]
  refine (Cert.Reference6Ideal.Read.val_main_v3_eq _ _).trans (funext fun i => ?_)
  exact (Cert.Reference6Ideal.Mm.closed _ _ i).trans (congrFun (Cert.Kernel6Ideal.Mm.out_eq m c) i).symm

/-- The reference of program 7 leaves its arguments as they were, and has no semaphore. -/
theorem ref_frame7 [Cert.Reference7Ideal.Facts] : Cert.quiescent_Reference7Ideal :=
  fun m g _ => (θ_run _ _ _).mono (fun r h => ⟨fun c => (h c).2, sem_eq_zero_of_no_sems (by decide) r.2⟩) (Cert.Reference7Ideal.Value.run m g)

/-- Program 7, the gradient of the weights in the product out of the gate, and its reference compute the same array. -/
theorem value7 [Cert.Kernel7Ideal.Facts] [Cert.Reference7Ideal.Facts] : Cert.algebraic_Kernel7Ideal_Reference7Ideal := by
  intro m g m' g' _ hagree
  refine ⟨_, Cert.Kernel7Ideal.Value.run m g, ?_⟩
  refine (θ_run _ _ _).mono (fun r h c => ⟨(h c).1.trans ?_, (h c).2⟩) (Cert.Reference7Ideal.Value.run m' g')
  obtain ⟨a0, a1⟩ := hagree c
  rw [a0, a1]
  refine (Cert.Reference7Ideal.Read.val_main_v4_eq _ _).trans (funext fun i => ?_)
  exact (Cert.Reference7Ideal.Mm.closed _ _ i).trans (Cert.Kernel7Ideal.Mm.out_eq m c i).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel11.Gen.facts, Cert.Kernel11Ideal.Gen.facts, Cert.Reference11Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, preFacts, normFacts,
  fun m g _ => Cert.Kernel.Gen.frame m g,
  fun m g _ => Cert.KernelIdeal.Gen.frame m g,
  fun m g _ => Cert.KernelIdeal.Gen.frame m g,
  fun m g _ => ref_frame m g, fun m g _ => ref_frame m g,
  fun m g _ => Cert.Kernel2.Gen.frame m g, fun m g _ => Cert.Kernel2Ideal.Gen.frame m g, ref_frame2,
  fun m g _ => Cert.Kernel3.Gen.frame m g, fun m g _ => Cert.Kernel3Ideal.Gen.frame m g, ref_frame3,
  fun m g _ => Cert.Kernel4.Gen.frame m g, fun m g _ => Cert.Kernel4Ideal.Gen.frame m g, ref_frame4,
  fun m g _ => Cert.Kernel5.Gen.frame m g, fun m g _ => Cert.Kernel5Ideal.Gen.frame m g, ref_frame5,
  fun m g _ => Cert.Kernel6.Gen.frame m g, fun m g _ => Cert.Kernel6Ideal.Gen.frame m g, ref_frame6,
  fun m g _ => Cert.Kernel7.Gen.frame m g, fun m g _ => Cert.Kernel7Ideal.Gen.frame m g, ref_frame7,
  fun m g _ => Cert.Kernel8.Gen.frame m g, fun m g _ => Cert.Kernel8Ideal.Gen.frame m g, ref_frame8,
  fun m g _ => Cert.Kernel9.Gen.frame m g, fun m g _ => Cert.Kernel9Ideal.Gen.frame m g, ref_frame9,
  fun m g _ => Cert.Kernel10.Gen.frame m g, fun m g _ => Cert.Kernel10Ideal.Gen.frame m g, ref_frame10,
  fun m g _ => Cert.Kernel12.Gen.frame m g, fun m g _ => Cert.Kernel12Ideal.Gen.frame m g, ref_frame12,
  fun m g _ => Cert.Kernel13.Gen.frame m g, fun m g _ => Cert.Kernel13Ideal.Gen.frame m g, ref_frame13,
  fun m g _ => Cert.Kernel14.Gen.frame m g, fun m g _ => Cert.Kernel14Ideal.Gen.frame m g, ref_frame14,
  fun m g _ => Cert.Kernel15.Gen.frame m g, fun m g _ => Cert.Kernel15Ideal.Gen.frame m g, ref_frame15,
  fun m g _ => Cert.Kernel16.Gen.frame m g, fun m g _ => Cert.Kernel16Ideal.Gen.frame m g, ref_frame16,
  fun m g _ => Cert.Kernel17.Gen.frame m g, fun m g _ => Cert.Kernel17Ideal.Gen.frame m g, ref_frame17,
  fun m g _ => Cert.Kernel18.Gen.frame m g, fun m g _ => Cert.Kernel18Ideal.Gen.frame m g, ref_frame18,
  fun m g _ => Cert.Kernel11.Gen.frame m g, fun m g _ => Cert.Kernel11Ideal.Gen.frame m g, fun m g _ => Cert.Kernel11Ideal.Gen.frame m g,
  fun m g _ => ref_frame11 m g, fun m g _ => ref_frame11 m g,
  fun m g _ => Cert.Kernel19.Gen.frame m g, fun m g _ => Cert.Kernel19Ideal.Gen.frame m g, ref_frame19,
  fun m g _ => Cert.Kernel20.Gen.frame m g, fun m g _ => Cert.Kernel20Ideal.Gen.frame m g, ref_frame20,
  fun m g _ => Cert.Kernel21.Gen.frame m g, fun m g _ => Cert.Kernel21Ideal.Gen.frame m g, ref_frame21,
  trivial, by
  intro m g m' g' hpre hagree
  have hf := fun c => fin_of_pre _ _ _ (hpre c)
  refine ⟨_, _, _, _, Cert.KernelIdeal.XaRun.results m g hf, ?_⟩
  refine (θ_run _ _ _).mono (fun r h c => ?_) (Cert.ReferenceIdeal.XaRef.results m' g' fun c => by rw [(hagree c).1, (hagree c).2.1]; exact hf c)
  obtain ⟨a0, a1, a2⟩ := hagree c
  have e := h c
  rw [a0, a1, a2] at e
  exact ⟨e.1, e.2.1, e.2.2.1, e.2.2.2.1, e.2.2.2.2.1.trans a0.symm, e.2.2.2.2.2.1.trans a1.symm, e.2.2.2.2.2.2.trans a2.symm⟩,
  trivial, value2, trivial, value3, trivial, value4, trivial, value5, trivial, value6, trivial, value7, trivial, value8, trivial, value9, trivial, value10,
  trivial, value12, trivial, value13, trivial, value14, trivial, value15, trivial, value16, trivial, value17, trivial, value18, trivial, value11,
  trivial, value19, trivial, value20, trivial, value21⟩

end Cert.Proof

end
